-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3072x1x4096 : Shape := ⟨3, ![3072, 1, 4096]⟩
abbrev S512x22016 : Shape := ⟨2, ![512, 22016]⟩
abbrev S32x22016 : Shape := ⟨2, ![32, 22016]⟩
abbrev S32x2752 : Shape := ⟨2, ![32, 2752]⟩
abbrev S3072x4096 : Shape := ⟨2, ![3072, 4096]⟩
abbrev S3072x11008 : Shape := ⟨2, ![3072, 11008]⟩
abbrev S512x256 : Shape := ⟨2, ![512, 256]⟩
abbrev S32x256 : Shape := ⟨2, ![32, 256]⟩
abbrev S32x2816 : Shape := ⟨2, ![32, 2816]⟩
abbrev S3072x256 : Shape := ⟨2, ![3072, 256]⟩
abbrev S4096x512 : Shape := ⟨2, ![4096, 512]⟩
abbrev S32x128 : Shape := ⟨2, ![32, 128]⟩
abbrev S32x128x1 : Shape := ⟨3, ![32, 128, 1]⟩
abbrev S8x128 : Shape := ⟨2, ![8, 128]⟩
abbrev S1x128 : Shape := ⟨2, ![1, 128]⟩
abbrev S16x128 : Shape := ⟨2, ![16, 128]⟩
abbrev S8x128x1 : Shape := ⟨3, ![8, 128, 1]⟩
abbrev S512x4096 : Shape := ⟨2, ![512, 4096]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S3072x1x4096, .bf16⟩
  | .hbm, ⟨1, _⟩ => ⟨S512x22016, .i32⟩
  | .hbm, ⟨2, _⟩ => ⟨S32x22016, .bf16⟩
  | .hbm, ⟨3, _⟩ => ⟨S32x2752, .i32⟩
  | .hbm, ⟨4, _⟩ => ⟨S3072x4096, .bf16⟩
  | .hbm, ⟨5, _⟩ => ⟨S3072x11008, .bf16⟩
  | .local _ .vmem, ⟨0, _⟩ => ⟨S3072x4096, .bf16⟩
  | .local _ .vmem, ⟨1, _⟩ => ⟨S512x256, .i32⟩
  | .local _ .vmem, ⟨2, _⟩ => ⟨S512x256, .i32⟩
  | .local _ .vmem, ⟨3, _⟩ => ⟨S512x256, .i32⟩
  | .local _ .vmem, ⟨4, _⟩ => ⟨S512x256, .i32⟩
  | .local _ .vmem, ⟨5, _⟩ => ⟨S32x256, .bf16⟩
  | .local _ .vmem, ⟨6, _⟩ => ⟨S32x256, .bf16⟩
  | .local _ .vmem, ⟨7, _⟩ => ⟨S32x256, .bf16⟩
  | .local _ .vmem, ⟨8, _⟩ => ⟨S32x256, .bf16⟩
  | .local _ .vmem, ⟨9, _⟩ => ⟨S32x2816, .i32⟩
  | .local _ .vmem, ⟨10, _⟩ => ⟨S3072x256, .bf16⟩
  | .local _ .vmem, ⟨11, _⟩ => ⟨S3072x256, .bf16⟩
  | .local _ .vmem, ⟨12, _⟩ => ⟨S4096x512, .bf16⟩
  | _, _ => ⟨S3072x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![43], ![false]⟩

def k0_mult1 (i : grid0.Coords) : BitVec 32 :=
  let arg0 : BitVec 32 := BitVec.ofNat 32 (i 0).val
  let c32_i32 : BitVec 32 := 32#32
  let v0 : BitVec 32 := Scalar.muli arg0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.muli v17 c128_i32_4
  v18
def k0_off1 (i : grid0.Coords) : Fin 2 → Nat :=
  let c0 : Index := 0#32
  let arg0 : BitVec 32 := BitVec.ofNat 32 (i 0).val
  let c32_i32 : BitVec 32 := 32#32
  let v0 : BitVec 32 := Scalar.muli arg0 c32_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c128_i32 : BitVec 32 := 128#32
  let c0_i32_1 : BitVec 32 := 0#32
  let v7 : BitVec 1 := Scalar.cmpi .sgt c128_i32 c0_i32_1
  let v8 : BitVec 32 := Scalar.extui v7
  let c0_i32_2 : BitVec 32 := 0#32
  let v9 : BitVec 1 := Scalar.cmpi .slt c128_i32 c0_i32_2
  let v10 : BitVec 32 := Scalar.extui v9
  let v11 : BitVec 32 := Scalar.subi v8 v10
  let v12 : BitVec 1 := Scalar.cmpi .ne v6 v11
  let v13 : BitVec 32 := Scalar.remsi v0 c128_i32
  let c0_i32_3 : BitVec 32 := 0#32
  let v14 : BitVec 1 := Scalar.cmpi .ne v13 c0_i32_3
  let v15 : BitVec 1 := Scalar.andi v12 v14
  let v1 : BitVec 32 := Scalar.divsi v0 c128_i32
  let c1_i32 : BitVec 32 := 1#32
  let v16 : BitVec 32 := Scalar.subi v1 c1_i32
  let v17 : BitVec 32 := Scalar.select v15 v16 v1
  let c128_i32_4 : BitVec 32 := 128#32
  let v18 : BitVec 32 := Scalar.muli v17 c128_i32_4
  let v19 : BitVec 32 := v18
  let v20 : Index := Scalar.indexCast v19
  ![0, v20.toNat]
def k0_mult2 (i : grid0.Coords) : BitVec 32 :=
  let c1376_i32 : BitVec 32 := 1376#32
  let arg0 : BitVec 32 := BitVec.ofNat 32 (i 0).val
  let c32_i32_8310 : BitVec 32 := 32#32
  let v26351 : BitVec 32 := Scalar.muli arg0 c32_i32_8310
  let v26352 : BitVec 32 := Scalar.addi c1376_i32 v26351
  let c0_i32_8312 : BitVec 32 := 0#32
  let v26354 : BitVec 1 := Scalar.cmpi .sgt v26352 c0_i32_8312
  let v26355 : BitVec 32 := Scalar.extui v26354
  let c0_i32_8313 : BitVec 32 := 0#32
  let v26356 : BitVec 1 := Scalar.cmpi .slt v26352 c0_i32_8313
  let v26357 : BitVec 32 := Scalar.extui v26356
  let v26358 : BitVec 32 := Scalar.subi v26355 v26357
  let c128_i32_8311 : BitVec 32 := 128#32
  let c0_i32_8314 : BitVec 32 := 0#32
  let v26359 : BitVec 1 := Scalar.cmpi .sgt c128_i32_8311 c0_i32_8314
  let v26360 : BitVec 32 := Scalar.extui v26359
  let c0_i32_8315 : BitVec 32 := 0#32
  let v26361 : BitVec 1 := Scalar.cmpi .slt c128_i32_8311 c0_i32_8315
  let v26362 : BitVec 32 := Scalar.extui v26361
  let v26363 : BitVec 32 := Scalar.subi v26360 v26362
  let v26364 : BitVec 1 := Scalar.cmpi .ne v26358 v26363
  let v26365 : BitVec 32 := Scalar.remsi v26352 c128_i32_8311
  let c0_i32_8316 : BitVec 32 := 0#32
  let v26366 : BitVec 1 := Scalar.cmpi .ne v26365 c0_i32_8316
  let v26367 : BitVec 1 := Scalar.andi v26364 v26366
  let v26353 : BitVec 32 := Scalar.divsi v26352 c128_i32_8311
  let c1_i32_8317 : BitVec 32 := 1#32
  let v26368 : BitVec 32 := Scalar.subi v26353 c1_i32_8317
  let v26369 : BitVec 32 := Scalar.select v26367 v26368 v26353
  let c128_i32_8318 : BitVec 32 := 128#32
  let v26370 : BitVec 32 := Scalar.muli v26369 c128_i32_8318
  v26370
def k0_off2 (i : grid0.Coords) : Fin 2 → Nat :=
  let c0_8319 : Index := 0#32
  let c1376_i32 : BitVec 32 := 1376#32
  let arg0 : BitVec 32 := BitVec.ofNat 32 (i 0).val
  let c32_i32_8310 : BitVec 32 := 32#32
  let v26351 : BitVec 32 := Scalar.muli arg0 c32_i32_8310
  let v26352 : BitVec 32 := Scalar.addi c1376_i32 v26351
  let c0_i32_8312 : BitVec 32 := 0#32
  let v26354 : BitVec 1 := Scalar.cmpi .sgt v26352 c0_i32_8312
  let v26355 : BitVec 32 := Scalar.extui v26354
  let c0_i32_8313 : BitVec 32 := 0#32
  let v26356 : BitVec 1 := Scalar.cmpi .slt v26352 c0_i32_8313
  let v26357 : BitVec 32 := Scalar.extui v26356
  let v26358 : BitVec 32 := Scalar.subi v26355 v26357
  let c128_i32_8311 : BitVec 32 := 128#32
  let c0_i32_8314 : BitVec 32 := 0#32
  let v26359 : BitVec 1 := Scalar.cmpi .sgt c128_i32_8311 c0_i32_8314
  let v26360 : BitVec 32 := Scalar.extui v26359
  let c0_i32_8315 : BitVec 32 := 0#32
  let v26361 : BitVec 1 := Scalar.cmpi .slt c128_i32_8311 c0_i32_8315
  let v26362 : BitVec 32 := Scalar.extui v26361
  let v26363 : BitVec 32 := Scalar.subi v26360 v26362
  let v26364 : BitVec 1 := Scalar.cmpi .ne v26358 v26363
  let v26365 : BitVec 32 := Scalar.remsi v26352 c128_i32_8311
  let c0_i32_8316 : BitVec 32 := 0#32
  let v26366 : BitVec 1 := Scalar.cmpi .ne v26365 c0_i32_8316
  let v26367 : BitVec 1 := Scalar.andi v26364 v26366
  let v26353 : BitVec 32 := Scalar.divsi v26352 c128_i32_8311
  let c1_i32_8317 : BitVec 32 := 1#32
  let v26368 : BitVec 32 := Scalar.subi v26353 c1_i32_8317
  let v26369 : BitVec 32 := Scalar.select v26367 v26368 v26353
  let c128_i32_8318 : BitVec 32 := 128#32
  let v26370 : BitVec 32 := Scalar.muli v26369 c128_i32_8318
  let v26371 : BitVec 32 := v26370
  let v26372 : Index := Scalar.indexCast v26371
  ![0, v26372.toNat]
@[reducible] def k0_t1_loop : Scf.Loop 32 :=
  let c0_i32_16949 : BitVec 32 := 0#32
  let c6_i32_16950 : BitVec 32 := 6#32
  let v52703 : BitVec 32 := Scalar.addi c0_i32_16949 c6_i32_16950
  let c1_i32_16951 : BitVec 32 := 1#32
  ⟨c0_i32_16949, v52703, c1_i32_16951⟩
def k0_mult3 (k0_t1 : Fin k0_t1_loop.trips) : BitVec 32 :=
  let c0_i32_16954 : BitVec 32 := 0#32
  let c0_i32_16949 : BitVec 32 := 0#32
  let c1_i32_16951 : BitVec 32 := 1#32
  let arg9 : BitVec 32 := Scf.iv c0_i32_16949 c1_i32_16951 k0_t1
  let c1_i32_16953 : BitVec 32 := 1#32
  let v52704 : BitVec 32 := Scalar.muli arg9 c1_i32_16953
  let v52705 : BitVec 32 := Scalar.addi c0_i32_16954 v52704
  let c512_i32 : BitVec 32 := 512#32
  let v52706 : BitVec 32 := Scalar.muli v52705 c512_i32
  v52706
def k0_off3 (k0_t1 : Fin k0_t1_loop.trips) : Fin 2 → Nat :=
  let c0_i32_16954 : BitVec 32 := 0#32
  let c0_i32_16949 : BitVec 32 := 0#32
  let c1_i32_16951 : BitVec 32 := 1#32
  let arg9 : BitVec 32 := Scf.iv c0_i32_16949 c1_i32_16951 k0_t1
  let c1_i32_16953 : BitVec 32 := 1#32
  let v52704 : BitVec 32 := Scalar.muli arg9 c1_i32_16953
  let v52705 : BitVec 32 := Scalar.addi c0_i32_16954 v52704
  let c512_i32 : BitVec 32 := 512#32
  let v52706 : BitVec 32 := Scalar.muli v52705 c512_i32
  let v52707 : BitVec 32 := v52706
  let v52708 : Index := Scalar.indexCast v52707
  let c0_16955 : Index := 0#32
  ![v52708.toNat, 0]
def k0_off4 (k0_t1 : Fin k0_t1_loop.trips) : Fin 2 → Nat :=
  let c0_i32_16954 : BitVec 32 := 0#32
  let c0_i32_16949 : BitVec 32 := 0#32
  let c1_i32_16951 : BitVec 32 := 1#32
  let arg9 : BitVec 32 := Scf.iv c0_i32_16949 c1_i32_16951 k0_t1
  let c1_i32_16953 : BitVec 32 := 1#32
  let v52704 : BitVec 32 := Scalar.muli arg9 c1_i32_16953
  let v52705 : BitVec 32 := Scalar.addi c0_i32_16954 v52704
  let c512_i32 : BitVec 32 := 512#32
  let v52706 : BitVec 32 := Scalar.muli v52705 c512_i32
  let v52707 : BitVec 32 := v52706
  let v52719 : Index := Scalar.indexCast v52707
  let c0_16958 : Index := 0#32
  ![v52719.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x2816 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3072x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S3072x1x4096 : Shape := ⟨3, ![3072, 1, 4096]⟩
abbrev S512x22016 : Shape := ⟨2, ![512, 22016]⟩
abbrev S32x22016 : Shape := ⟨2, ![32, 22016]⟩
abbrev S32x2752 : Shape := ⟨2, ![32, 2752]⟩
abbrev S_ : Shape := ⟨0, ![]⟩
abbrev S32x2752x1 : Shape := ⟨3, ![32, 2752, 1]⟩
abbrev S32x2752x8 : Shape := ⟨3, ![32, 2752, 8]⟩
abbrev S32x1x22016 : Shape := ⟨3, ![32, 1, 22016]⟩
abbrev S3072x1x512x8 : Shape := ⟨4, ![3072, 1, 512, 8]⟩
abbrev S32x16x22016 : Shape := ⟨3, ![32, 16, 22016]⟩
abbrev S3072x1x512x1 : Shape := ⟨4, ![3072, 1, 512, 1]⟩
abbrev S3072x1x512 : Shape := ⟨3, ![3072, 1, 512]⟩
abbrev S3072x1x22016 : Shape := ⟨3, ![3072, 1, 22016]⟩
abbrev S3072x1x11008 : Shape := ⟨3, ![3072, 1, 11008]⟩
abbrev S3072x11008 : Shape := ⟨2, ![3072, 11008]⟩

abbrev nBuf : Space → Nat
  | .hbm => 215
  | .vmem => 0
  | .smem => 0
  | _ => 0

abbrev hbmTy0_0 (i : Nat) : BufTy := match i % 128 with
  | 0 => ⟨S3072x1x4096, .bf16⟩
  | 1 => ⟨S512x22016, .i32⟩
  | 2 => ⟨S32x22016, .bf16⟩
  | 3 => ⟨S32x2752, .i32⟩
  | 4 => ⟨S_, .i32⟩
  | 5 => ⟨S32x2752, .i32⟩
  | 6 => ⟨S32x2752, .i32⟩
  | 7 => ⟨S_, .i32⟩
  | 8 => ⟨S32x2752, .i32⟩
  | 9 => ⟨S32x2752, .i32⟩
  | 10 => ⟨S_, .i32⟩
  | 11 => ⟨S32x2752, .i32⟩
  | 12 => ⟨S32x2752, .i32⟩
  | 13 => ⟨S_, .i32⟩
  | 14 => ⟨S32x2752, .i32⟩
  | 15 => ⟨S32x2752, .i32⟩
  | 16 => ⟨S_, .i32⟩
  | 17 => ⟨S32x2752, .i32⟩
  | 18 => ⟨S32x2752, .i32⟩
  | 19 => ⟨S_, .i32⟩
  | 20 => ⟨S32x2752, .i32⟩
  | 21 => ⟨S32x2752, .i32⟩
  | 22 => ⟨S_, .i32⟩
  | 23 => ⟨S32x2752, .i32⟩
  | 24 => ⟨S32x2752, .i32⟩
  | 25 => ⟨S_, .i32⟩
  | 26 => ⟨S32x2752, .i32⟩
  | 27 => ⟨S32x2752, .i32⟩
  | 28 => ⟨S_, .i32⟩
  | 29 => ⟨S32x2752, .i32⟩
  | 30 => ⟨S32x2752, .i32⟩
  | 31 => ⟨S_, .i32⟩
  | 32 => ⟨S32x2752, .i32⟩
  | 33 => ⟨S32x2752, .i32⟩
  | 34 => ⟨S_, .i32⟩
  | 35 => ⟨S32x2752, .i32⟩
  | 36 => ⟨S32x2752, .i32⟩
  | 37 => ⟨S_, .i32⟩
  | 38 => ⟨S32x2752, .i32⟩
  | 39 => ⟨S32x2752, .i32⟩
  | 40 => ⟨S_, .i32⟩
  | 41 => ⟨S32x2752, .i32⟩
  | 42 => ⟨S32x2752, .i32⟩
  | 43 => ⟨S_, .i32⟩
  | 44 => ⟨S32x2752, .i32⟩
  | 45 => ⟨S32x2752, .i32⟩
  | 46 => ⟨S_, .i32⟩
  | 47 => ⟨S32x2752, .i32⟩
  | 48 => ⟨S32x2752, .i32⟩
  | 49 => ⟨S_, .i32⟩
  | 50 => ⟨S32x2752, .i32⟩
  | 51 => ⟨S32x2752, .i32⟩
  | 52 => ⟨S32x2752x1, .i32⟩
  | 53 => ⟨S32x2752x1, .i32⟩
  | 54 => ⟨S32x2752x1, .i32⟩
  | 55 => ⟨S32x2752x1, .i32⟩
  | 56 => ⟨S32x2752x1, .i32⟩
  | 57 => ⟨S32x2752x1, .i32⟩
  | 58 => ⟨S32x2752x1, .i32⟩
  | 59 => ⟨S32x2752x1, .i32⟩
  | 60 => ⟨S32x2752x8, .i32⟩
  | 61 => ⟨S32x22016, .i32⟩
  | 62 => ⟨S32x22016, .bf16⟩
  | 63 => ⟨S32x1x22016, .bf16⟩
  | 64 => ⟨S32x1x22016, .bf16⟩
  | 65 => ⟨S3072x1x512x8, .bf16⟩
  | 66 => ⟨S_, .i32⟩
  | 67 => ⟨S512x22016, .i32⟩
  | 68 => ⟨S512x22016, .i32⟩
  | 69 => ⟨S_, .i32⟩
  | 70 => ⟨S512x22016, .i32⟩
  | 71 => ⟨S512x22016, .i32⟩
  | 72 => ⟨S512x22016, .bf16⟩
  | 73 => ⟨S32x16x22016, .bf16⟩
  | 74 => ⟨S32x16x22016, .bf16⟩
  | 75 => ⟨S32x16x22016, .bf16⟩
  | 76 => ⟨S32x16x22016, .bf16⟩
  | 77 => ⟨S32x16x22016, .bf16⟩
  | 78 => ⟨S512x22016, .bf16⟩
  | 79 => ⟨S3072x1x512x1, .bf16⟩
  | 80 => ⟨S3072x1x512, .bf16⟩
  | 81 => ⟨S3072x1x22016, .f32⟩
  | 82 => ⟨S_, .i32⟩
  | 83 => ⟨S512x22016, .i32⟩
  | 84 => ⟨S512x22016, .i32⟩
  | 85 => ⟨S_, .i32⟩
  | 86 => ⟨S512x22016, .i32⟩
  | 87 => ⟨S512x22016, .i32⟩
  | 88 => ⟨S512x22016, .bf16⟩
  | 89 => ⟨S32x16x22016, .bf16⟩
  | 90 => ⟨S32x16x22016, .bf16⟩
  | 91 => ⟨S32x16x22016, .bf16⟩
  | 92 => ⟨S32x16x22016, .bf16⟩
  | 93 => ⟨S32x16x22016, .bf16⟩
  | 94 => ⟨S512x22016, .bf16⟩
  | 95 => ⟨S3072x1x512x1, .bf16⟩
  | 96 => ⟨S3072x1x512, .bf16⟩
  | 97 => ⟨S3072x1x22016, .f32⟩
  | 98 => ⟨S3072x1x22016, .f32⟩
  | 99 => ⟨S_, .i32⟩
  | 100 => ⟨S512x22016, .i32⟩
  | 101 => ⟨S512x22016, .i32⟩
  | 102 => ⟨S_, .i32⟩
  | 103 => ⟨S512x22016, .i32⟩
  | 104 => ⟨S512x22016, .i32⟩
  | 105 => ⟨S512x22016, .bf16⟩
  | 106 => ⟨S32x16x22016, .bf16⟩
  | 107 => ⟨S32x16x22016, .bf16⟩
  | 108 => ⟨S32x16x22016, .bf16⟩
  | 109 => ⟨S32x16x22016, .bf16⟩
  | 110 => ⟨S32x16x22016, .bf16⟩
  | 111 => ⟨S512x22016, .bf16⟩
  | 112 => ⟨S3072x1x512x1, .bf16⟩
  | 113 => ⟨S3072x1x512, .bf16⟩
  | 114 => ⟨S3072x1x22016, .f32⟩
  | 115 => ⟨S3072x1x22016, .f32⟩
  | 116 => ⟨S_, .i32⟩
  | 117 => ⟨S512x22016, .i32⟩
  | 118 => ⟨S512x22016, .i32⟩
  | 119 => ⟨S_, .i32⟩
  | 120 => ⟨S512x22016, .i32⟩
  | 121 => ⟨S512x22016, .i32⟩
  | 122 => ⟨S512x22016, .bf16⟩
  | 123 => ⟨S32x16x22016, .bf16⟩
  | 124 => ⟨S32x16x22016, .bf16⟩
  | 125 => ⟨S32x16x22016, .bf16⟩
  | 126 => ⟨S32x16x22016, .bf16⟩
  | 127 => ⟨S32x16x22016, .bf16⟩
  | _ => ⟨S3072x1x4096, .bf16⟩

abbrev hbmTy0_1 (i : Nat) : BufTy := match i % 128 with
  | 0 => ⟨S512x22016, .bf16⟩
  | 1 => ⟨S3072x1x512x1, .bf16⟩
  | 2 => ⟨S3072x1x512, .bf16⟩
  | 3 => ⟨S3072x1x22016, .f32⟩
  | 4 => ⟨S3072x1x22016, .f32⟩
  | 5 => ⟨S_, .i32⟩
  | 6 => ⟨S512x22016, .i32⟩
  | 7 => ⟨S512x22016, .i32⟩
  | 8 => ⟨S_, .i32⟩
  | 9 => ⟨S512x22016, .i32⟩
  | 10 => ⟨S512x22016, .i32⟩
  | 11 => ⟨S512x22016, .bf16⟩
  | 12 => ⟨S32x16x22016, .bf16⟩
  | 13 => ⟨S32x16x22016, .bf16⟩
  | 14 => ⟨S32x16x22016, .bf16⟩
  | 15 => ⟨S32x16x22016, .bf16⟩
  | 16 => ⟨S32x16x22016, .bf16⟩
  | 17 => ⟨S512x22016, .bf16⟩
  | 18 => ⟨S3072x1x512x1, .bf16⟩
  | 19 => ⟨S3072x1x512, .bf16⟩
  | 20 => ⟨S3072x1x22016, .f32⟩
  | 21 => ⟨S3072x1x22016, .f32⟩
  | 22 => ⟨S_, .i32⟩
  | 23 => ⟨S512x22016, .i32⟩
  | 24 => ⟨S512x22016, .i32⟩
  | 25 => ⟨S_, .i32⟩
  | 26 => ⟨S512x22016, .i32⟩
  | 27 => ⟨S512x22016, .i32⟩
  | 28 => ⟨S512x22016, .bf16⟩
  | 29 => ⟨S32x16x22016, .bf16⟩
  | 30 => ⟨S32x16x22016, .bf16⟩
  | 31 => ⟨S32x16x22016, .bf16⟩
  | 32 => ⟨S32x16x22016, .bf16⟩
  | 33 => ⟨S32x16x22016, .bf16⟩
  | 34 => ⟨S512x22016, .bf16⟩
  | 35 => ⟨S3072x1x512x1, .bf16⟩
  | 36 => ⟨S3072x1x512, .bf16⟩
  | 37 => ⟨S3072x1x22016, .f32⟩
  | 38 => ⟨S3072x1x22016, .f32⟩
  | 39 => ⟨S_, .i32⟩
  | 40 => ⟨S512x22016, .i32⟩
  | 41 => ⟨S512x22016, .i32⟩
  | 42 => ⟨S_, .i32⟩
  | 43 => ⟨S512x22016, .i32⟩
  | 44 => ⟨S512x22016, .i32⟩
  | 45 => ⟨S512x22016, .bf16⟩
  | 46 => ⟨S32x16x22016, .bf16⟩
  | 47 => ⟨S32x16x22016, .bf16⟩
  | 48 => ⟨S32x16x22016, .bf16⟩
  | 49 => ⟨S32x16x22016, .bf16⟩
  | 50 => ⟨S32x16x22016, .bf16⟩
  | 51 => ⟨S512x22016, .bf16⟩
  | 52 => ⟨S3072x1x512x1, .bf16⟩
  | 53 => ⟨S3072x1x512, .bf16⟩
  | 54 => ⟨S3072x1x22016, .f32⟩
  | 55 => ⟨S3072x1x22016, .f32⟩
  | 56 => ⟨S_, .i32⟩
  | 57 => ⟨S512x22016, .i32⟩
  | 58 => ⟨S512x22016, .i32⟩
  | 59 => ⟨S_, .i32⟩
  | 60 => ⟨S512x22016, .i32⟩
  | 61 => ⟨S512x22016, .i32⟩
  | 62 => ⟨S512x22016, .bf16⟩
  | 63 => ⟨S32x16x22016, .bf16⟩
  | 64 => ⟨S32x16x22016, .bf16⟩
  | 65 => ⟨S32x16x22016, .bf16⟩
  | 66 => ⟨S32x16x22016, .bf16⟩
  | 67 => ⟨S32x16x22016, .bf16⟩
  | 68 => ⟨S512x22016, .bf16⟩
  | 69 => ⟨S3072x1x512x1, .bf16⟩
  | 70 => ⟨S3072x1x512, .bf16⟩
  | 71 => ⟨S3072x1x22016, .f32⟩
  | 72 => ⟨S3072x1x22016, .f32⟩
  | 73 => ⟨S3072x1x11008, .f32⟩
  | 74 => ⟨S3072x1x11008, .f32⟩
  | 75 => ⟨S3072x1x11008, .f32⟩
  | 76 => ⟨S3072x1x11008, .f32⟩
  | 77 => ⟨S_, .f32⟩
  | 78 => ⟨S3072x1x11008, .f32⟩
  | 79 => ⟨S3072x1x11008, .f32⟩
  | 80 => ⟨S_, .f32⟩
  | 81 => ⟨S3072x1x11008, .f32⟩
  | 82 => ⟨S3072x1x11008, .f32⟩
  | 83 => ⟨S3072x1x11008, .f32⟩
  | 84 => ⟨S3072x1x11008, .f32⟩
  | 85 => ⟨S3072x1x11008, .bf16⟩
  | 86 => ⟨S3072x11008, .bf16⟩
  | _ => ⟨S3072x1x4096, .bf16⟩

abbrev hbmTy (i : Nat) : BufTy := match i / 128 with
  | 0 => hbmTy0_0 i
  | 1 => hbmTy0_1 i
  | _ => ⟨S3072x1x4096, .bf16⟩

abbrev bufTy : (tb : Table) → Fin (tcTables nBuf tb) → BufTy
  | .hbm, ⟨i, _⟩ => hbmTy i
  | _, _ => ⟨S3072x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_c_5 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_v15 : Ref sig .tc := ⟨.hbm, 27, rfl⟩
abbrev main_c_7 : Ref sig .tc := ⟨.hbm, 28, rfl⟩
abbrev main_v16 : Ref sig .tc := ⟨.hbm, 29, rfl⟩
abbrev main_v17 : Ref sig .tc := ⟨.hbm, 30, rfl⟩
abbrev main_c_8 : Ref sig .tc := ⟨.hbm, 31, rfl⟩
abbrev main_v18 : Ref sig .tc := ⟨.hbm, 32, rfl⟩
abbrev main_v19 : Ref sig .tc := ⟨.hbm, 33, rfl⟩
abbrev main_c_9 : Ref sig .tc := ⟨.hbm, 34, rfl⟩
abbrev main_v20 : Ref sig .tc := ⟨.hbm, 35, rfl⟩
abbrev main_v21 : Ref sig .tc := ⟨.hbm, 36, rfl⟩
abbrev main_c_10 : Ref sig .tc := ⟨.hbm, 37, rfl⟩
abbrev main_v22 : Ref sig .tc := ⟨.hbm, 38, rfl⟩
abbrev main_v23 : Ref sig .tc := ⟨.hbm, 39, rfl⟩
abbrev main_c_11 : Ref sig .tc := ⟨.hbm, 40, rfl⟩
abbrev main_v24 : Ref sig .tc := ⟨.hbm, 41, rfl⟩
abbrev main_v25 : Ref sig .tc := ⟨.hbm, 42, rfl⟩
abbrev main_c_12 : Ref sig .tc := ⟨.hbm, 43, rfl⟩
abbrev main_v26 : Ref sig .tc := ⟨.hbm, 44, rfl⟩
abbrev main_v27 : Ref sig .tc := ⟨.hbm, 45, rfl⟩
abbrev main_c_13 : Ref sig .tc := ⟨.hbm, 46, rfl⟩
abbrev main_v28 : Ref sig .tc := ⟨.hbm, 47, rfl⟩
abbrev main_v29 : Ref sig .tc := ⟨.hbm, 48, rfl⟩
abbrev main_c_14 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_15 : Ref sig .tc := ⟨.hbm, 66, rfl⟩
abbrev main_v46 : Ref sig .tc := ⟨.hbm, 67, rfl⟩
abbrev main_v47 : Ref sig .tc := ⟨.hbm, 68, rfl⟩
abbrev main_c_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_17 : Ref sig .tc := ⟨.hbm, 82, rfl⟩
abbrev main_v60 : Ref sig .tc := ⟨.hbm, 83, rfl⟩
abbrev main_v61 : Ref sig .tc := ⟨.hbm, 84, rfl⟩
abbrev main_c_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_c_19 : Ref sig .tc := ⟨.hbm, 99, rfl⟩
abbrev main_v75 : Ref sig .tc := ⟨.hbm, 100, rfl⟩
abbrev main_v76 : Ref sig .tc := ⟨.hbm, 101, rfl⟩
abbrev main_c_20 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_21 : Ref sig .tc := ⟨.hbm, 116, rfl⟩
abbrev main_v90 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_23 : Ref sig .tc := ⟨.hbm, 133, rfl⟩
abbrev main_v105 : Ref sig .tc := ⟨.hbm, 134, rfl⟩
abbrev main_v106 : Ref sig .tc := ⟨.hbm, 135, rfl⟩
abbrev main_c_24 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_c_25 : Ref sig .tc := ⟨.hbm, 150, rfl⟩
abbrev main_v120 : Ref sig .tc := ⟨.hbm, 151, rfl⟩
abbrev main_v121 : Ref sig .tc := ⟨.hbm, 152, rfl⟩
abbrev main_c_26 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_c_27 : Ref sig .tc := ⟨.hbm, 167, rfl⟩
abbrev main_v135 : Ref sig .tc := ⟨.hbm, 168, rfl⟩
abbrev main_v136 : Ref sig .tc := ⟨.hbm, 169, rfl⟩
abbrev main_c_28 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_c_29 : Ref sig .tc := ⟨.hbm, 184, rfl⟩
abbrev main_v150 : Ref sig .tc := ⟨.hbm, 185, rfl⟩
abbrev main_v151 : Ref sig .tc := ⟨.hbm, 186, rfl⟩
abbrev main_c_30 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_cst : Ref sig .tc := ⟨.hbm, 205, rfl⟩
abbrev main_v169 : Ref sig .tc := ⟨.hbm, 206, rfl⟩
abbrev main_v170 : Ref sig .tc := ⟨.hbm, 207, rfl⟩
abbrev main_cst_31 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩

abbrev nD : Nat := 1
abbrev τ : Topo := Topo.v7x

variable {F : FTy → Type} [FloatOps F]
-- ==== Proof.Rolled.lean ====
/- The kernel body of `Cert.KernelIdeal` rolled up: the 1024 written-out passes of its unpacking loop are one
   function of the half, the group, the column block, the sub-tile and the row quadruple, run over lists, and the
   printed body is this program (`body_eq`). -/
module

public import proofs.«01_k».proof.Proof.Gen.KernelIdeal
public import Idealize.ShloMosaic.Lib.Tactic

@[expose] public section

noncomputable section

namespace Cert.KernelIdeal.Rolled

open Idealize.ShloMosaic Idealize.SL Idealize.SL.Sem Cert.KernelIdeal
open Facts K0.Facts₀ Shapes1.Facts₀ Shapes2.Facts₀ Shapes3.Facts₀

variable {F : FTy → Type} [FloatOps F]

/-! ## The values -/

/-- The zero points of one half's 256 columns as pairs: of the 128 packed words `v21` that hold them, spread over
    the columns, each four-bit field twice in a word with the exponent pattern. -/
def zeroPairs (v0 : BitVec 32) (v21 : Vec F S32x128 .i32) : IVec S32x256 32 :=
  let c128_i32_5 : BitVec 32 := 128#32
  let c0_i32_6 : BitVec 32 := 0#32
  let v22 : BitVec 1 := Scalar.cmpi .eq c128_i32_5 c0_i32_6
  let c1_i32_7 : BitVec 32 := 1#32
  let v23 : BitVec 32 := Scalar.select v22 c1_i32_7 c128_i32_5
  let v24 : BitVec 32 := Scalar.remsi v0 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  have v32 : IVec S32x128 32 := iota .tc S32x128 32 [1] iota_S32x128_d1_w32
  let c0_i32_11 : BitVec 32 := 0#32
  let v33 : BitVec 32 := Scalar.addi v31 c0_i32_11
  let c8_i32 : BitVec 32 := 8#32
  have v34 : IVec S32x128 32 := broadcast S32x128 c8_i32
  have v35 : IVec S32x128 32 := divsi v32 v34
  let c0_i32_12 : BitVec 32 := 0#32
  have v36 : IVec S32x128 32 := broadcast S32x128 c0_i32_12
  have v37 : IVec S32x128 1 := cmpi .sgt v32 v36
  have v38 : IVec S32x128 32 := extui 32 v37 natLt_1_32
  let c0_i32_13 : BitVec 32 := 0#32
  have v39 : IVec S32x128 32 := broadcast S32x128 c0_i32_13
  have v40 : IVec S32x128 1 := cmpi .slt v32 v39
  have v41 : IVec S32x128 32 := extui 32 v40 natLt_1_32
  have v42 : IVec S32x128 32 := subi v38 v41
  let c0_i32_14 : BitVec 32 := 0#32
  let v43 : BitVec 1 := Scalar.cmpi .sgt c8_i32 c0_i32_14
  let v44 : BitVec 32 := Scalar.extui v43
  let c0_i32_15 : BitVec 32 := 0#32
  let v45 : BitVec 1 := Scalar.cmpi .slt c8_i32 c0_i32_15
  let v46 : BitVec 32 := Scalar.extui v45
  let v47 : BitVec 32 := Scalar.subi v44 v46
  have v48 : IVec S32x128 32 := broadcast S32x128 v47
  have v49 : IVec S32x128 1 := cmpi .ne v42 v48
  have v50 : IVec S32x128 32 := broadcast S32x128 c8_i32
  have v51 : IVec S32x128 32 := remsi v32 v50
  let c0_i32_16 : BitVec 32 := 0#32
  have v52 : IVec S32x128 32 := broadcast S32x128 c0_i32_16
  have v53 : IVec S32x128 1 := cmpi .ne v51 v52
  have v54 : IVec S32x128 1 := andi v49 v53
  let c1_i32_17 : BitVec 32 := 1#32
  have v55 : IVec S32x128 32 := broadcast S32x128 c1_i32_17
  have v56 : IVec S32x128 32 := subi v35 v55
  have v57 : IVec S32x128 32 := select v54 v56 v35
  have v58 : IVec S32x128 32 := broadcast S32x128 v33
  have v59 : IVec S32x128 32 := addi v58 v57
  let c0_i32_18 : BitVec 32 := 0#32
  have v60 : IVec S32x128 32 := broadcast S32x128 c0_i32_18
  have v61 : IVec S32x128 1 := cmpi .slt v59 v60
  let c128_i32_19 : BitVec 32 := 128#32
  have v62 : IVec S32x128 32 := broadcast S32x128 c128_i32_19
  have v63 : IVec S32x128 32 := addi v59 v62
  have v64 : IVec S32x128 32 := select v61 v63 v59
  have v65 : IVec S32x128x1 32 := shapeCast S32x128x1 v64 shapeCasts_S32x128_S32x128x1
  have v66 : IVec S32x128 32 := shapeCast S32x128 v65 shapeCasts_S32x128x1_S32x128
  have v67 : IVec S32x128 32 := dynamicGather 1 v21 v66
  let c8_i32_20 : BitVec 32 := 8#32
  let c0_i32_21 : BitVec 32 := 0#32
  let v68 : BitVec 1 := Scalar.cmpi .eq c8_i32_20 c0_i32_21
  let c1_i32_22 : BitVec 32 := 1#32
  let v69 : BitVec 32 := Scalar.select v68 c1_i32_22 c8_i32_20
  have v70 : IVec S32x128 32 := broadcast S32x128 v69
  have v71 : IVec S32x128 32 := remsi v32 v70
  let c0_i32_23 : BitVec 32 := 0#32
  have v72 : IVec S32x128 32 := broadcast S32x128 c0_i32_23
  have v73 : IVec S32x128 1 := cmpi .ne v71 v72
  let c0_i32_24 : BitVec 32 := 0#32
  have v74 : IVec S32x128 32 := broadcast S32x128 c0_i32_24
  have v75 : IVec S32x128 1 := cmpi .slt v71 v74
  let c0_i32_25 : BitVec 32 := 0#32
  let v76 : BitVec 1 := Scalar.cmpi .slt v69 c0_i32_25
  have v77 : IVec S32x128 1 := broadcast S32x128 v76
  have v78 : IVec S32x128 1 := broadcastTo S32x128 v77 broadcasts_S32x128_S32x128
  have v79 : IVec S32x128 1 := xori v75 v78
  have v80 : IVec S32x128 1 := andi v79 v73
  have v81 : IVec S32x128 32 := broadcast S32x128 v69
  have v82 : IVec S32x128 32 := addi v71 v81
  have v83 : IVec S32x128 32 := select v80 v82 v71
  let c4_i32 : BitVec 32 := 4#32
  have v84 : IVec S32x128 32 := broadcast S32x128 c4_i32
  have v85 : IVec S32x128 32 := muli v84 v83
  have v86 : IVec S32x128 32 := shrui v67 v85
  let c15_i32 : BitVec 32 := 15#32
  have v87 : IVec S32x128 32 := broadcast S32x128 c15_i32
  have v88 : IVec S32x128 32 := andi v86 v87
  let c16_i32 : BitVec 32 := 16#32
  have v89 : IVec S32x128 32 := broadcast S32x128 c16_i32
  have v90 : IVec S32x128 32 := shli v88 v89
  have v91 : IVec S32x128 32 := ori v88 v90
  let c1124090624_i32 : BitVec 32 := 1124090624#32
  have v92 : IVec S32x128 32 := broadcast S32x128 c1124090624_i32
  have v93 : IVec S32x128 32 := ori v91 v92
  let c16_i32_26 : BitVec 32 := 16#32
  let v94 : BitVec 32 := Scalar.addi v31 c16_i32_26
  let c8_i32_27 : BitVec 32 := 8#32
  have v95 : IVec S32x128 32 := broadcast S32x128 c8_i32_27
  have v96 : IVec S32x128 32 := divsi v32 v95
  let c0_i32_28 : BitVec 32 := 0#32
  have v97 : IVec S32x128 32 := broadcast S32x128 c0_i32_28
  have v98 : IVec S32x128 1 := cmpi .sgt v32 v97
  have v99 : IVec S32x128 32 := extui 32 v98 natLt_1_32
  let c0_i32_29 : BitVec 32 := 0#32
  have v100 : IVec S32x128 32 := broadcast S32x128 c0_i32_29
  have v101 : IVec S32x128 1 := cmpi .slt v32 v100
  have v102 : IVec S32x128 32 := extui 32 v101 natLt_1_32
  have v103 : IVec S32x128 32 := subi v99 v102
  let c0_i32_30 : BitVec 32 := 0#32
  let v104 : BitVec 1 := Scalar.cmpi .sgt c8_i32_27 c0_i32_30
  let v105 : BitVec 32 := Scalar.extui v104
  let c0_i32_31 : BitVec 32 := 0#32
  let v106 : BitVec 1 := Scalar.cmpi .slt c8_i32_27 c0_i32_31
  let v107 : BitVec 32 := Scalar.extui v106
  let v108 : BitVec 32 := Scalar.subi v105 v107
  have v109 : IVec S32x128 32 := broadcast S32x128 v108
  have v110 : IVec S32x128 1 := cmpi .ne v103 v109
  have v111 : IVec S32x128 32 := broadcast S32x128 c8_i32_27
  have v112 : IVec S32x128 32 := remsi v32 v111
  let c0_i32_32 : BitVec 32 := 0#32
  have v113 : IVec S32x128 32 := broadcast S32x128 c0_i32_32
  have v114 : IVec S32x128 1 := cmpi .ne v112 v113
  have v115 : IVec S32x128 1 := andi v110 v114
  let c1_i32_33 : BitVec 32 := 1#32
  have v116 : IVec S32x128 32 := broadcast S32x128 c1_i32_33
  have v117 : IVec S32x128 32 := subi v96 v116
  have v118 : IVec S32x128 32 := select v115 v117 v96
  have v119 : IVec S32x128 32 := broadcast S32x128 v94
  have v120 : IVec S32x128 32 := addi v119 v118
  let c0_i32_34 : BitVec 32 := 0#32
  have v121 : IVec S32x128 32 := broadcast S32x128 c0_i32_34
  have v122 : IVec S32x128 1 := cmpi .slt v120 v121
  let c128_i32_35 : BitVec 32 := 128#32
  have v123 : IVec S32x128 32 := broadcast S32x128 c128_i32_35
  have v124 : IVec S32x128 32 := addi v120 v123
  have v125 : IVec S32x128 32 := select v122 v124 v120
  have v126 : IVec S32x128x1 32 := shapeCast S32x128x1 v125 shapeCasts_S32x128_S32x128x1
  have v127 : IVec S32x128 32 := shapeCast S32x128 v126 shapeCasts_S32x128x1_S32x128
  have v128 : IVec S32x128 32 := dynamicGather 1 v21 v127
  let c8_i32_36 : BitVec 32 := 8#32
  let c0_i32_37 : BitVec 32 := 0#32
  let v129 : BitVec 1 := Scalar.cmpi .eq c8_i32_36 c0_i32_37
  let c1_i32_38 : BitVec 32 := 1#32
  let v130 : BitVec 32 := Scalar.select v129 c1_i32_38 c8_i32_36
  have v131 : IVec S32x128 32 := broadcast S32x128 v130
  have v132 : IVec S32x128 32 := remsi v32 v131
  let c0_i32_39 : BitVec 32 := 0#32
  have v133 : IVec S32x128 32 := broadcast S32x128 c0_i32_39
  have v134 : IVec S32x128 1 := cmpi .ne v132 v133
  let c0_i32_40 : BitVec 32 := 0#32
  have v135 : IVec S32x128 32 := broadcast S32x128 c0_i32_40
  have v136 : IVec S32x128 1 := cmpi .slt v132 v135
  let c0_i32_41 : BitVec 32 := 0#32
  let v137 : BitVec 1 := Scalar.cmpi .slt v130 c0_i32_41
  have v138 : IVec S32x128 1 := broadcast S32x128 v137
  have v139 : IVec S32x128 1 := broadcastTo S32x128 v138 broadcasts_S32x128_S32x128
  have v140 : IVec S32x128 1 := xori v136 v139
  have v141 : IVec S32x128 1 := andi v140 v134
  have v142 : IVec S32x128 32 := broadcast S32x128 v130
  have v143 : IVec S32x128 32 := addi v132 v142
  have v144 : IVec S32x128 32 := select v141 v143 v132
  let c4_i32_42 : BitVec 32 := 4#32
  have v145 : IVec S32x128 32 := broadcast S32x128 c4_i32_42
  have v146 : IVec S32x128 32 := muli v145 v144
  have v147 : IVec S32x128 32 := shrui v128 v146
  let c15_i32_43 : BitVec 32 := 15#32
  have v148 : IVec S32x128 32 := broadcast S32x128 c15_i32_43
  have v149 : IVec S32x128 32 := andi v147 v148
  let c16_i32_44 : BitVec 32 := 16#32
  have v150 : IVec S32x128 32 := broadcast S32x128 c16_i32_44
  have v151 : IVec S32x128 32 := shli v149 v150
  have v152 : IVec S32x128 32 := ori v149 v151
  let c1124090624_i32_45 : BitVec 32 := 1124090624#32
  have v153 : IVec S32x128 32 := broadcast S32x128 c1124090624_i32_45
  have v154 : IVec S32x128 32 := ori v152 v153
  have v155 : IVec S32x256 32 := concatenate S32x256 1 [⟨S32x128, v93⟩, ⟨S32x128, v154⟩] concatenates_S32x128_S32x128_S32x256_d1
  v155

/-- The sublane numbers. -/
def lanes : IVec S8x128 32 := iota .tc S8x128 32 [0] iota_S8x128_d0_w32

/-- Each sublane's shift: eight bits per row of a quadruple. -/
def shifts (v156 : IVec S8x128 32) : IVec S8x128 32 :=
  let c4_i32_46 : BitVec 32 := 4#32
  let c0_i32_47 : BitVec 32 := 0#32
  let v157 : BitVec 1 := Scalar.cmpi .eq c4_i32_46 c0_i32_47
  let c1_i32_48 : BitVec 32 := 1#32
  let v158 : BitVec 32 := Scalar.select v157 c1_i32_48 c4_i32_46
  have v159 : IVec S8x128 32 := broadcast S8x128 v158
  have v160 : IVec S8x128 32 := remsi v156 v159
  let c0_i32_49 : BitVec 32 := 0#32
  have v161 : IVec S8x128 32 := broadcast S8x128 c0_i32_49
  have v162 : IVec S8x128 1 := cmpi .ne v160 v161
  let c0_i32_50 : BitVec 32 := 0#32
  have v163 : IVec S8x128 32 := broadcast S8x128 c0_i32_50
  have v164 : IVec S8x128 1 := cmpi .slt v160 v163
  let c0_i32_51 : BitVec 32 := 0#32
  let v165 : BitVec 1 := Scalar.cmpi .slt v158 c0_i32_51
  have v166 : IVec S8x128 1 := broadcast S8x128 v165
  have v167 : IVec S8x128 1 := broadcastTo S8x128 v166 broadcasts_S8x128_S8x128
  have v168 : IVec S8x128 1 := xori v164 v167
  have v169 : IVec S8x128 1 := andi v168 v162
  have v170 : IVec S8x128 32 := broadcast S8x128 v158
  have v171 : IVec S8x128 32 := addi v160 v170
  have v172 : IVec S8x128 32 := select v169 v171 v160
  let c8_i32_52 : BitVec 32 := 8#32
  have v173 : IVec S8x128 32 := broadcast S8x128 c8_i32_52
  have v174 : IVec S8x128 32 := muli v173 v172
  v174

/-- One sixteen-row strip of weights: of the eight packed rows `v182`, the two rows `k` and `k + 1`, each byte of
    theirs as its two four-bit codes, less the zero points `v178`, times the scales `v181`. -/
def strip (v156 v174 : IVec S8x128 32) (v182 : Vec F S8x128 .i32) (v178 v181 : FVec F S16x128 .bf16) (k : BitVec 32) :
    FVec F S16x128 .bf16 :=
  let c4_i32_57 : BitVec 32 := 4#32
  have v183 : IVec S8x128 32 := broadcast S8x128 c4_i32_57
  have v184 : IVec S8x128 32 := divsi v156 v183
  let c0_i32_58 : BitVec 32 := 0#32
  have v185 : IVec S8x128 32 := broadcast S8x128 c0_i32_58
  have v186 : IVec S8x128 1 := cmpi .sgt v156 v185
  have v187 : IVec S8x128 32 := extui 32 v186 natLt_1_32
  let c0_i32_59 : BitVec 32 := 0#32
  have v188 : IVec S8x128 32 := broadcast S8x128 c0_i32_59
  have v189 : IVec S8x128 1 := cmpi .slt v156 v188
  have v190 : IVec S8x128 32 := extui 32 v189 natLt_1_32
  have v191 : IVec S8x128 32 := subi v187 v190
  let c0_i32_60 : BitVec 32 := 0#32
  let v192 : BitVec 1 := Scalar.cmpi .sgt c4_i32_57 c0_i32_60
  let v193 : BitVec 32 := Scalar.extui v192
  let c0_i32_61 : BitVec 32 := 0#32
  let v194 : BitVec 1 := Scalar.cmpi .slt c4_i32_57 c0_i32_61
  let v195 : BitVec 32 := Scalar.extui v194
  let v196 : BitVec 32 := Scalar.subi v193 v195
  have v197 : IVec S8x128 32 := broadcast S8x128 v196
  have v198 : IVec S8x128 1 := cmpi .ne v191 v197
  have v199 : IVec S8x128 32 := broadcast S8x128 c4_i32_57
  have v200 : IVec S8x128 32 := remsi v156 v199
  let c0_i32_62 : BitVec 32 := 0#32
  have v201 : IVec S8x128 32 := broadcast S8x128 c0_i32_62
  have v202 : IVec S8x128 1 := cmpi .ne v200 v201
  have v203 : IVec S8x128 1 := andi v198 v202
  let c1_i32_63 : BitVec 32 := 1#32
  have v204 : IVec S8x128 32 := broadcast S8x128 c1_i32_63
  have v205 : IVec S8x128 32 := subi v184 v204
  have v206 : IVec S8x128 32 := select v203 v205 v184
  let c0_i32_64 : BitVec 32 := k
  have v207 : IVec S8x128 32 := broadcast S8x128 c0_i32_64
  have v208 : IVec S8x128 32 := addi v207 v206
  let c0_i32_65 : BitVec 32 := 0#32
  have v209 : IVec S8x128 32 := broadcast S8x128 c0_i32_65
  have v210 : IVec S8x128 1 := cmpi .slt v208 v209
  let c8_i32_66 : BitVec 32 := 8#32
  have v211 : IVec S8x128 32 := broadcast S8x128 c8_i32_66
  have v212 : IVec S8x128 32 := addi v208 v211
  have v213 : IVec S8x128 32 := select v210 v212 v208
  have v214 : IVec S8x128x1 32 := shapeCast S8x128x1 v213 shapeCasts_S8x128_S8x128x1
  have v215 : IVec S8x128 32 := shapeCast S8x128 v214 shapeCasts_S8x128x1_S8x128
  have v216 : IVec S8x128 32 := dynamicGather 0 v182 v215
  have v217 : IVec S8x128 32 := shrui v216 v174
  let c15_i32_67 : BitVec 32 := 15#32
  have v218 : IVec S8x128 32 := broadcast S8x128 c15_i32_67
  have v219 : IVec S8x128 32 := andi v217 v218
  let c12_i32 : BitVec 32 := 12#32
  have v220 : IVec S8x128 32 := broadcast S8x128 c12_i32
  have v221 : IVec S8x128 32 := shli v217 v220
  let c983040_i32 : BitVec 32 := 983040#32
  have v222 : IVec S8x128 32 := broadcast S8x128 c983040_i32
  have v223 : IVec S8x128 32 := andi v221 v222
  have v224 : IVec S8x128 32 := ori v219 v223
  let c1124090624_i32_68 : BitVec 32 := 1124090624#32
  have v225 : IVec S8x128 32 := broadcast S8x128 c1124090624_i32_68
  have v226 : IVec S8x128 32 := ori v224 v225
  have v227 : FVec F S16x128 .bf16 := bitcastToFloat .bf16 (bitcast S16x128 16 v226 bitcasts_S8x128_w32_S16x128_w16)
  have v228 : FVec F S16x128 .bf16 := subf v227 v178
  have v229 : FVec F S16x128 .bf16 := mulf v228 v181
  have v232 : FVec F S16x128 .bf16 := shapeCast S16x128 v229 shapeCasts_S16x128_S16x128
  v232

theorem zrow_slices : ∀ (g : Fin 32) (c : Fin 2), S32x256.Slices ![g.val, c.val * 128] S1x128 := by decide +kernel

/-- Group `g`'s zero points of column block `c`, over sixteen rows. -/
def zrow (v155 : IVec S32x256 32) (g : Fin 32) (c : Fin 2) : FVec F S16x128 .bf16 :=
  have v175 : IVec S1x128 32 := extractStridedSlice S1x128 ![g.val, c.val * 128] v155 (zrow_slices g c)
  have v176 : IVec S1x128 32 := shapeCast S1x128 v175 shapeCasts_S1x128_S1x128
  have v177 : IVec S8x128 32 := broadcastTo S8x128 v176 broadcasts_S1x128_S8x128
  have v178 : FVec F S16x128 .bf16 := bitcastToFloat .bf16 (bitcast S16x128 16 v177 bitcasts_S8x128_w32_S16x128_w16)
  v178

/-- A row of scales over sixteen rows. -/
def srow (v179 : Vec F S1x128 .bf16) : FVec F S16x128 .bf16 :=
  have v180 : FVec F S1x128 .bf16 := shapeCast S1x128 v179 shapeCasts_S1x128_S1x128
  have v181 : FVec F S16x128 .bf16 := broadcastTo S16x128 v180 broadcasts_S1x128_S16x128
  v181

/-! ## The program -/

theorem w_inb : ∀ (h : Fin 2) (g : Fin 32) (c t : Fin 2) (m : Fin 4), ∀ a,
    (![g.val * 128 + t.val * 64 + m.val * 16, h.val * 256 + c.val * 128] : Fin 2 → Nat) a + S16x128.size a ≤ S4096x512.size a := by
  decide +kernel
theorem w_packed : ∀ (h : Fin 2) (g : Fin 32) (c t : Fin 2) (m : Fin 4),
    (Rect.unit (s := S4096x512) ![g.val * 128 + t.val * 64 + m.val * 16, h.val * 256 + c.val * 128] S16x128.size (w_inb h g c t m)).PackedRows (EltTy.packing .bf16) := by
  decide +kernel
theorem s_inb : ∀ (g : Fin 32) (c : Fin 2), ∀ a, (![g.val, c.val * 128] : Fin 2 → Nat) a + S1x128.size a ≤ S32x256.size a := by
  decide +kernel
theorem q_inb : ∀ (g : Fin 32) (c t : Fin 2), ∀ a,
    (![g.val * 16 + t.val * 8, c.val * 128] : Fin 2 → Nat) a + S8x128.size a ≤ S512x256.size a := by decide +kernel

/-- A list's programs in order. -/
def each {ι : Type} (f : ι → Prog (TpuEff nD τ sig (Elt F) Λ₀ .tc) PUnit) : List ι → Prog (TpuEff nD τ sig (Elt F) Λ₀ .tc) PUnit
  | [] => .ret ⟨⟩
  | a :: l => f a >>= fun _ => each f l

/-- One strip stored. -/
def unit (arg8 : Memref sig .tc .vmem S4096x512 .bf16) (harg8 : arg8.IsWhole) (h : Fin 2) (g : Fin 32) (c t : Fin 2)
    (q : Vec F S8x128 .i32) (z s : FVec F S16x128 .bf16) (m : Fin 4) : Prog (TpuEff nD τ sig (Elt F) Λ₀ .tc) PUnit := do
  let _v : Vec F S16x128 .bf16 ← Prog.lift (.load arg8 (Rect.unit (s := S4096x512) ![g.val * 128 + t.val * 64 + m.val * 16, h.val * 256 + c.val * 128] S16x128.size (w_inb h g c t m)).toLoadRect (View.loadsAt_vmem h_S16x128))
  Prog.lift (.store arg8 (Rect.unit (s := S4096x512) ![g.val * 128 + t.val * 64 + m.val * 16, h.val * 256 + c.val * 128] S16x128.size (w_inb h g c t m)) (strip lanes (shifts lanes) q z s (BitVec.ofNat 32 (2 * m.val))) Finset.univ (View.stores_vmem h_S16x128 (harg8.storeExact_slice rfl _ (w_packed h g c t m)) (fun _ => rfl)) (.inl rfl))

/-- A sub-tile: eight packed rows read, four strips stored. -/
def tile (argq : Memref sig .tc .vmem S512x256 .i32) (arg8 : Memref sig .tc .vmem S4096x512 .bf16) (harg8 : arg8.IsWhole)
    (h : Fin 2) (g : Fin 32) (c : Fin 2) (z s : FVec F S16x128 .bf16) (t : Fin 2) : Prog (TpuEff nD τ sig (Elt F) Λ₀ .tc) PUnit := do
  let q : Vec F S8x128 .i32 ← Prog.lift (.load argq (Rect.unit (s := S512x256) ![g.val * 16 + t.val * 8, c.val * 128] S8x128.size (q_inb g c t)).toLoadRect (View.loadsAt_vmem h_S8x128))
  each (unit arg8 harg8 h g c t q z s) [0, 1, 2, 3]

/-- A group's column block: its scales read, its two sub-tiles. -/
def block (argq : Memref sig .tc .vmem S512x256 .i32) (args : Memref sig .tc .vmem S32x256 .bf16) (arg8 : Memref sig .tc .vmem S4096x512 .bf16) (harg8 : arg8.IsWhole)
    (h : Fin 2) (zp : IVec S32x256 32) (g : Fin 32) (c : Fin 2) : Prog (TpuEff nD τ sig (Elt F) Λ₀ .tc) PUnit := do
  let s : Vec F S1x128 .bf16 ← Prog.lift (.load args (Rect.unit (s := S32x256) ![g.val, c.val * 128] S1x128.size (s_inb g c)).toLoadRect (View.loadsAt_vmem h_S1x128))
  each (tile argq arg8 harg8 h g c (zrow zp g c) (srow s)) [0, 1]

/-- A half's 32 groups. -/
def half (argq : Memref sig .tc .vmem S512x256 .i32) (args : Memref sig .tc .vmem S32x256 .bf16) (arg8 : Memref sig .tc .vmem S4096x512 .bf16) (harg8 : arg8.IsWhole)
    (h : Fin 2) (zp : IVec S32x256 32) : Prog (TpuEff nD τ sig (Elt F) Λ₀ .tc) PUnit :=
  each (fun g => each (block argq args arg8 harg8 h zp g) [0, 1])
    [0, 1, 2, 3, 4, 5, 6, 7, 8, 9, 10, 11, 12, 13, 14, 15, 16, 17, 18, 19, 20, 21, 22, 23, 24, 25, 26, 27, 28, 29, 30, 31]

/-- A row block of the product, activated and stored. -/
def rowStep (arg1 : Memref sig .tc .vmem S3072x4096 .bf16) (arg7 : Memref sig .tc .vmem S3072x256 .bf16) (harg7 : arg7.IsWhole)
    (arg8 : Memref sig .tc .vmem S4096x512 .bf16) (k0_t1 : Fin k0_t1_loop.trips) : Prog (TpuEff nD τ sig (Elt F) Λ₀ .tc) PUnit := do
  let arg9 : BitVec 32 := Scf.iv 0#32 1#32 k0_t1
  let c1_i32_16953 : BitVec 32 := 1#32
  let v52704 : BitVec 32 := Scalar.muli arg9 c1_i32_16953
  let c0_i32_16954 : BitVec 32 := 0#32
  let v52705 : BitVec 32 := Scalar.addi c0_i32_16954 v52704
  let c512_i32 : BitVec 32 := 512#32
  let v52706 : BitVec 32 := Scalar.muli v52705 c512_i32
  let v52707 : BitVec 32 := v52706
  let v52708 : Index := Scalar.indexCast v52707
  let c0_16955 : Index := 0#32
  let v52709 : Vec F S512x4096 .bf16 ← Prog.lift (.load arg1 (Rect.unit (s := S3072x4096) (k0_off3 k0_t1) S512x4096.size (k0_off3_inb k0_t1)).toLoadRect (View.loadsAt_vmem h_S512x4096))
  have v52710 : FVec F S512x4096 .bf16 := shapeCast S512x4096 v52709 shapeCasts_S512x4096_S512x4096
  let c0_16956 : Index := 0#32
  let c0_16957 : Index := 0#32
  let v52711 : Vec F S4096x512 .bf16 ← Prog.lift (.load arg8 (Rect.unit (s := S4096x512) ![0, 0] S4096x512.size inb_S4096x512_S4096x512_0_0).toLoadRect (View.loadsAt_vmem h_S4096x512))
  have cst : FVec F S512x512 .f32 := constant S512x512 .f32 0x00000000#32
  have v52712 : FVec F S512x512 .f32 := matmul dot_S512x4096_S4096x512_S512x512_1_0_0_1_n_n none v52710 v52711 cst
  have v52713 : FVec F S512x256 .f32 := extractStridedSlice S512x256 ![0, 0] v52712 slices_S512x512_o0_0_S512x256
  have v52714 : FVec F S512x256 .f32 := extractStridedSlice S512x256 ![0, 256] v52712 slices_S512x512_o0_256_S512x256
  have v52715 : FVec F S512x256 .f32 := logistic v52713
  have v52716 : FVec F S512x256 .f32 := mulf v52713 v52715
  have v52717 : FVec F S512x256 .f32 := mulf v52716 v52714
  have v52718 : FVec F S512x256 .bf16 := truncf .bf16 v52717 bitsLt_bf16_f32
  let v52719 : Index := Scalar.indexCast v52707
  let c0_16958 : Index := 0#32
  let v52720 : Vec F S512x256 .bf16 ← Prog.lift (.load arg7 (Rect.unit (s := S3072x256) (k0_off4 k0_t1) S512x256.size (k0_off4_inb k0_t1)).toLoadRect (View.loadsAt_vmem h_S512x256))
  Prog.lift (.store arg7 (Rect.unit (s := S3072x256) (k0_off4 k0_t1) S512x256.size (k0_off4_inb k0_t1)) v52718 Finset.univ (View.stores_vmem h_S512x256 (harg7.storeExact_slice rfl _ (k0_off4_packedbf16 k0_t1)) (fun _ => rfl)) (.inl rfl))
  pure ⟨⟩

/-- The six row blocks. -/
def rows (arg1 : Memref sig .tc .vmem S3072x4096 .bf16) (arg7 : Memref sig .tc .vmem S3072x256 .bf16) (harg7 : arg7.IsWhole)
    (arg8 : Memref sig .tc .vmem S4096x512 .bf16) : Prog (TpuEff nD τ sig (Elt F) Λ₀ .tc) PUnit := do
  Scf.Loop.for k0_t1_loop k0_t1_ok ⟨⟩ fun k _ => rowStep arg1 arg7 harg7 arg8 k
  pure ⟨⟩

/-- The body. -/
def body (i : grid0.Coords) (arg1 : Memref sig .tc .vmem S3072x4096 .bf16) (harg1 : arg1.IsWhole) (arg2 : Memref sig .tc .vmem S512x256 .i32) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S32x2816 .i32) (harg6 : arg6.IsWhole) (arg7 : Memref sig .tc .vmem S3072x256 .bf16) (harg7 : arg7.IsWhole) (arg8 : Memref sig .tc .vmem S4096x512 .bf16) (harg8 : arg8.IsWhole) :
    Prog (TpuEff nD τ sig (Elt F) Λ₀ .tc) PUnit := do
  let zg : Vec F S32x128 .i32 ← Prog.lift (.load arg6 (Rect.unit (s := S32x2816) (k0_off1 i) S32x128.size (k0_off1_inb i)).toLoadRect (View.loadsAt_vmem h_S32x128))
  half arg2 arg4 arg8 harg8 0 (zeroPairs (Scalar.muli (BitVec.ofNat 32 (i 0).val) 32#32) zg)
  let zu : Vec F S32x128 .i32 ← Prog.lift (.load arg6 (Rect.unit (s := S32x2816) (k0_off2 i) S32x128.size (k0_off2_inb i)).toLoadRect (View.loadsAt_vmem h_S32x128))
  half arg3 arg5 arg8 harg8 1 (zeroPairs (Scalar.addi 1376#32 (Scalar.muli (BitVec.ofNat 32 (i 0).val) 32#32)) zu)
  rows arg1 arg7 harg7 arg8

/-! ## The printed body is the rolled one -/

section
universe v
variable {E : Type → Type v} {α : Type}

/-- A program rebuilt operation by operation. -/
def copyL (p : Prog E α) : Prog E α :=
  Prog.rec (motive := fun _ => Prog E α) (fun a => .ret a) (fun e _ ih => .op e ih) p
/-- The same, under a second name. -/
def copyR (p : Prog E α) : Prog E α :=
  Prog.rec (motive := fun _ => Prog E α) (fun a => .ret a) (fun e _ ih => .op e ih) p

theorem copyL_eq (p : Prog E α) : copyL p = p := by
  induction p with
  | ret a => rfl
  | op e k ih => exact congrArg (Prog.op e) (funext ih)
theorem copyR_eq (p : Prog E α) : copyR p = p := by
  induction p with
  | ret a => rfl
  | op e k ih => exact congrArg (Prog.op e) (funext ih)
end

theorem copy_eq (i : grid0.Coords) (arg1 : Memref sig .tc .vmem S3072x4096 .bf16) (harg1 : arg1.IsWhole) (arg2 : Memref sig .tc .vmem S512x256 .i32) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S32x2816 .i32) (harg6 : arg6.IsWhole) (arg7 : Memref sig .tc .vmem S3072x256 .bf16) (harg7 : arg7.IsWhole) (arg8 : Memref sig .tc .vmem S4096x512 .bf16) (harg8 : arg8.IsWhole) :
    copyL (cc0_gate_up_swiglu (F := F) i arg1 harg1 arg2 harg2 arg3 harg3 arg4 harg4 arg5 harg5 arg6 harg6 arg7 harg7 arg8 harg8) = copyR (body (F := F) i arg1 harg1 arg2 harg2 arg3 harg3 arg4 harg4 arg5 harg5 arg6 harg6 arg7 harg7 arg8 harg8) := by
  sl_kernel_rfl

/-- The printed body is the rolled one. -/
theorem body_eq (i : grid0.Coords) (arg1 : Memref sig .tc .vmem S3072x4096 .bf16) (harg1 : arg1.IsWhole) (arg2 : Memref sig .tc .vmem S512x256 .i32) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S32x2816 .i32) (harg6 : arg6.IsWhole) (arg7 : Memref sig .tc .vmem S3072x256 .bf16) (harg7 : arg7.IsWhole) (arg8 : Memref sig .tc .vmem S4096x512 .bf16) (harg8 : arg8.IsWhole) :
    cc0_gate_up_swiglu (F := F) i arg1 harg1 arg2 harg2 arg3 harg3 arg4 harg4 arg5 harg5 arg6 harg6 arg7 harg7 arg8 harg8 = body (F := F) i arg1 harg1 arg2 harg2 arg3 harg3 arg4 harg4 arg5 harg5 arg6 harg6 arg7 harg7 arg8 harg8 := by
  rw [← copyL_eq (cc0_gate_up_swiglu (F := F) i arg1 harg1 arg2 harg2 arg3 harg3 arg4 harg4 arg5 harg5 arg6 harg6 arg7 harg7 arg8 harg8), copy_eq, copyR_eq]

end Cert.KernelIdeal.Rolled

end
-- ==== Proof.Values.lean ====
module

public import proofs.«01_k».proof.Proof.Rolled
public import Idealize.ShloMosaic.Lib.PointwiseCore
public import Idealize.ShloMosaic.Lib.BitcastPair
public import Idealize.ShloMosaic.Lib.Pipeline.Value

@[expose] public section

noncomputable section

/-! # What the body's vector expressions hold, entry by entry

Zero points, scales and the weight strips in closed form: a weight is a four-bit code of a packed row less a four-bit
zero point, times a scale. -/

namespace Cert.KernelIdeal.Rolled

open Idealize.ShloMosaic Idealize.SL Idealize.SL.Sem Cert.KernelIdeal
open Facts K0.Facts₀ Shapes1.Facts₀ Shapes2.Facts₀ Shapes3.Facts₀

variable {F : FTy → Type} [FloatOps F]

/-! ## Four-bit fields -/

/-- Field `n` of a packed word. -/
def field (x : BitVec 32) (n : Nat) : BitVec 32 := (x >>> (4 * n)) &&& 15#32

/-- A four-bit value under the exponent of 128 in `bf16`: 128 plus the value. -/
def dec (x : BitVec 32) : F .bf16 := FloatOps.ofBits .bf16 (17152#16 ||| x.setWidth 16)

/-! ## The index vectors -/

/-- A column's word among eight columns to a word. -/
def lane8 : IVec S32x128 32 :=
  let v32 : IVec S32x128 32 := iota .tc S32x128 32 [1] iota_S32x128_d1_w32
  let v35 : IVec S32x128 32 := divsi v32 (broadcast S32x128 8#32)
  let v42 : IVec S32x128 32 := subi (extui 32 (cmpi .sgt v32 (broadcast S32x128 0#32)) natLt_1_32) (extui 32 (cmpi .slt v32 (broadcast S32x128 0#32)) natLt_1_32)
  let v47 : BitVec 32 := Scalar.subi (Scalar.extui (Scalar.cmpi .sgt 8#32 0#32)) (Scalar.extui (Scalar.cmpi .slt 8#32 0#32))
  let v54 : IVec S32x128 1 := andi (cmpi .ne v42 (broadcast S32x128 v47)) (cmpi .ne (remsi v32 (broadcast S32x128 8#32)) (broadcast S32x128 0#32))
  select v54 (subi v35 (broadcast S32x128 1#32)) v35

/-- … and its bit position there. -/
def lane4 : IVec S32x128 32 :=
  let v32 : IVec S32x128 32 := iota .tc S32x128 32 [1] iota_S32x128_d1_w32
  let v69 : BitVec 32 := Scalar.select (Scalar.cmpi .eq 8#32 0#32) 1#32 8#32
  let v71 : IVec S32x128 32 := remsi v32 (broadcast S32x128 v69)
  let v80 : IVec S32x128 1 := andi (xori (cmpi .slt v71 (broadcast S32x128 0#32)) (broadcastTo S32x128 (broadcast S32x128 (Scalar.cmpi .slt v69 0#32)) broadcasts_S32x128_S32x128)) (cmpi .ne v71 (broadcast S32x128 0#32))
  muli (broadcast S32x128 4#32) (select v80 (addi v71 (broadcast S32x128 v69)) v71)

/-- The words read from column `b` on. -/
def wordIdx (b : BitVec 32) : IVec S32x128 32 :=
  let v59 : IVec S32x128 32 := addi (broadcast S32x128 b) lane8
  select (cmpi .slt v59 (broadcast S32x128 0#32)) (addi v59 (broadcast S32x128 128#32)) v59

/-- 128 columns' zero points as pairs, their words from column `b` on. -/
def zhalf (b : BitVec 32) (v21 : Vec F S32x128 .i32) : IVec S32x128 32 :=
  let v88 : IVec S32x128 32 := andi (shrui (dynamicGather 1 v21 (shapeCast S32x128 (shapeCast S32x128x1 (wordIdx b) shapeCasts_S32x128_S32x128x1) shapeCasts_S32x128x1_S32x128)) lane4) (broadcast S32x128 15#32)
  ori (ori v88 (shli v88 (broadcast S32x128 16#32))) (broadcast S32x128 1124090624#32)

/-- A word column's place in its 128-column slice. -/
def wbase (v0 : BitVec 32) : BitVec 32 :=
  let v23 : BitVec 32 := Scalar.select (Scalar.cmpi .eq 128#32 0#32) 1#32 128#32
  let v24 : BitVec 32 := Scalar.remsi v0 v23
  Scalar.select (Scalar.andi (Scalar.xori (Scalar.cmpi .slt v24 0#32) (Scalar.cmpi .slt v23 0#32)) (Scalar.cmpi .ne v24 0#32)) (Scalar.addi v24 v23) v24

theorem zeroPairs_eq (v0 : BitVec 32) (v21 : Vec F S32x128 .i32) :
    zeroPairs v0 v21 = concatenate S32x256 1 [⟨S32x128, zhalf (F := F) (Scalar.addi (wbase v0) 0#32) v21⟩,
      ⟨S32x128, zhalf (F := F) (Scalar.addi (wbase v0) 16#32) v21⟩] concatenates_S32x128_S32x128_S32x256_d1 := rfl

theorem lane8_first : ∀ l : Fin 128, lane8 (ix2 (0 : Fin 32) l) = BitVec.ofNat 32 (l.val / 8) := by decide +kernel
theorem lane4_first : ∀ l : Fin 128, lane4 (ix2 (0 : Fin 32) l) = BitVec.ofNat 32 (4 * (l.val % 8)) := by decide +kernel
theorem lane8_row (g : Fin 32) (l : Fin 128) : lane8 (ix2 g l) = lane8 (ix2 (0 : Fin 32) l) := rfl
theorem lane4_row (g : Fin 32) (l : Fin 128) : lane4 (ix2 g l) = lane4 (ix2 (0 : Fin 32) l) := rfl

theorem lane8_apply (g : Fin 32) (l : Fin 128) : lane8 (ix2 g l) = BitVec.ofNat 32 (l.val / 8) := (lane8_row g l).trans (lane8_first l)
theorem lane4_apply (g : Fin 32) (l : Fin 128) : lane4 (ix2 g l) = BitVec.ofNat 32 (4 * (l.val % 8)) := (lane4_row g l).trans (lane4_first l)

theorem wordIdx_first : ∀ (n : Fin 8) (l : Fin 128),
    (wordIdx (BitVec.ofNat 32 (16 * n.val)) (ix2 (0 : Fin 32) l)).toNat % 128 = (16 * n.val + l.val / 8) % 128 := by decide +kernel
theorem wordIdx_apply (n : Fin 8) (g : Fin 32) (l : Fin 128) :
    (wordIdx (BitVec.ofNat 32 (16 * n.val)) (ix2 g l)).toNat % 128 = (16 * n.val + l.val / 8) % 128 :=
  wordIdx_first n l

/-- A zero point twice in a word. -/
def zpair (x : BitVec 32) : BitVec 32 := (x ||| (x <<< 16)) ||| 1124090624#32

theorem shrui_ofNat (x : BitVec 32) (n : Nat) (hn : n < 32) : IntOp.shrui .vector x (BitVec.ofNat 32 n) = x >>> n := by
  have e : (BitVec.ofNat 32 n).toNat = n := by rw [BitVec.toNat_ofNat, Nat.mod_eq_of_lt (by omega)]
  unfold IntOp.shrui
  rw [e, if_pos hn, BitVec.ushiftRight_eq', e]

theorem zhalf_read (b : BitVec 32) (v21 : Vec F S32x128 .i32) (g : Fin 32) (l : Fin 128) :
    zhalf (F := F) b v21 (ix2 g l)
      = zpair (IntOp.shrui .vector (v21 (ix2 g ⟨(wordIdx b (ix2 g l)).toNat % 128, Nat.mod_lt _ (by decide)⟩)) (lane4 (ix2 g l)) &&& 15#32) := by
  unfold zhalf
  rw [shapeCast_shapeCast]
  have e : (dynamicGather 1 v21 (wordIdx b)) (ix2 g l) = v21 (ix2 g ⟨(wordIdx b (ix2 g l)).toNat % 128, Nat.mod_lt _ (by decide)⟩) := by
    unfold dynamicGather
    refine congrArg v21 (funext fun a => ?_)
    match a with
    | ⟨0, _⟩ => rfl
    | ⟨1, _⟩ => rfl
  rw [← e]
  rfl

theorem zhalf_apply (n : Fin 8) (v21 : Vec F S32x128 .i32) (g : Fin 32) (l : Fin 128) :
    zhalf (F := F) (BitVec.ofNat 32 (16 * n.val)) v21 (ix2 g l)
      = zpair (field (v21 (ix2 g ⟨(16 * n.val + l.val / 8) % 128, Nat.mod_lt _ (by decide)⟩)) (l.val % 8)) := by
  have e : (⟨(wordIdx (BitVec.ofNat 32 (16 * n.val)) (ix2 g l)).toNat % 128, Nat.mod_lt _ (by decide)⟩ : Fin 128)
      = ⟨(16 * n.val + l.val / 8) % 128, Nat.mod_lt _ (by decide)⟩ := Fin.ext (wordIdx_apply n g l)
  rw [zhalf_read, e, lane4_apply, shrui_ofNat _ _ (by omega)]
  rfl

/-- The zero points of 256 columns, their words from column `32 n` of the slice on. -/
theorem zeroPairs_apply (v0 : BitVec 32) (n : Fin 4) (hb : wbase v0 = BitVec.ofNat 32 (32 * n.val)) (v21 : Vec F S32x128 .i32)
    (g : Fin 32) (c : Fin 256) :
    zeroPairs (F := F) v0 v21 (ix2 g c) = zpair (field (v21 (ix2 g ⟨32 * n.val + c.val / 8, by omega⟩)) (c.val % 8)) := by
  rw [zeroPairs_eq, hb]
  have h0 : Scalar.addi (BitVec.ofNat 32 (32 * n.val)) 0#32 = BitVec.ofNat 32 (16 * (⟨2 * n.val, by omega⟩ : Fin 8).val) := by
    clear hb; revert n; decide
  have h1 : Scalar.addi (BitVec.ofNat 32 (32 * n.val)) 16#32 = BitVec.ofNat 32 (16 * (⟨2 * n.val + 1, by omega⟩ : Fin 8).val) := by
    clear hb h0; revert n; decide
  rw [h0, h1]
  by_cases hc : c.val < 128
  · rw [concatenate_pair_apply_left (s₁ := S32x128) (s₂ := S32x128) (1 : Fin 2) _ _ _ (ix2 g c) rfl (ix2 g (⟨c.val, hc⟩ : Fin 128)) (fun b => by
      match b with
      | ⟨0, _⟩ => rfl
      | ⟨1, _⟩ => rfl), zhalf_apply]
    have e : (⟨(16 * (2 * n.val) + c.val / 8) % 128, Nat.mod_lt _ (by decide)⟩ : Fin 128) = ⟨32 * n.val + c.val / 8, by omega⟩ :=
      Fin.ext (by show (16 * (2 * n.val) + c.val / 8) % 128 = 32 * n.val + c.val / 8; omega)
    show zpair (field (v21 (ix2 g (⟨(16 * (2 * n.val) + c.val / 8) % 128, Nat.mod_lt _ (by decide)⟩ : Fin 128))) (c.val % 8)) = _
    rw [e]
  · rw [concatenate_pair_apply_right (s₁ := S32x128) (s₂ := S32x128) (1 : Fin 2) _ _ _ (ix2 g c) rfl rfl (ix2 g (⟨c.val - 128, by omega⟩ : Fin 128)) (fun b hb => by
      match b with
      | ⟨0, _⟩ => rfl
      | ⟨1, _⟩ => exact absurd rfl hb) (by show c.val - 128 + 128 = c.val; omega), zhalf_apply]
    have e : (⟨(16 * (2 * n.val + 1) + (c.val - 128) / 8) % 128, Nat.mod_lt _ (by decide)⟩ : Fin 128) = ⟨32 * n.val + c.val / 8, by omega⟩ :=
      Fin.ext (by show (16 * (2 * n.val + 1) + (c.val - 128) / 8) % 128 = 32 * n.val + c.val / 8; omega)
    have e2 : (c.val - 128) % 8 = c.val % 8 := by omega
    show zpair (field (v21 (ix2 g (⟨(16 * (2 * n.val + 1) + (c.val - 128) / 8) % 128, Nat.mod_lt _ (by decide)⟩ : Fin 128))) ((c.val - 128) % 8)) = _
    rw [e, e2]

theorem wbase_gate : ∀ i : Fin 43, wbase (Scalar.muli (BitVec.ofNat 32 i.val) 32#32) = BitVec.ofNat 32 (32 * (i.val % 4)) := by decide +kernel
theorem wbase_up : ∀ i : Fin 43, wbase (Scalar.addi 1376#32 (Scalar.muli (BitVec.ofNat 32 i.val) 32#32)) = BitVec.ofNat 32 (32 * ((i.val + 3) % 4)) := by decide +kernel

/-! ## Rows of sixteen: halves of words -/

theorem half_read (x : IVec S8x128 32) (r : Fin 16) (l : Fin 128) :
    bitcast S16x128 16 x bitcasts_S8x128_w32_S16x128_w16 (ix2 r l)
      = (x (ix2 (⟨r.val / 2, by omega⟩ : Fin 8) l)).extractLsb' (16 * (r.val % 2)) 16 := by
  rw [bitcast_32_16]
  refine congrArg (fun y : BitVec 32 => y.extractLsb' (16 * (r.val % 2)) 16) (congrArg x (funext fun a => ?_))
  match a with
  | ⟨0, _⟩ => rfl
  | ⟨1, _⟩ => rfl

theorem field_lt (x : BitVec 32) (n : Nat) : (field x n).toNat < 16 := by
  unfold field
  rw [BitVec.toNat_and]
  exact Nat.lt_of_le_of_lt Nat.and_le_right (by decide)

theorem field_ofNat (x : BitVec 32) (n : Nat) : ∃ k : Fin 16, field x n = BitVec.ofNat 32 k.val :=
  ⟨⟨_, field_lt x n⟩, by rw [BitVec.ofNat_toNat, BitVec.setWidth_eq]⟩

theorem zpair_half (x : BitVec 32) (n : Nat) (p : Fin 2) :
    (zpair (field x n)).extractLsb' (16 * p.val) 16 = 17152#16 ||| (field x n).setWidth 16 := by
  obtain ⟨k, hk⟩ := field_ofNat x n
  rw [hk]
  exact (by decide : ∀ p : Fin 2, ∀ k : Fin 16, (zpair (BitVec.ofNat 32 k.val)).extractLsb' (16 * p.val) 16 = 17152#16 ||| (BitVec.ofNat 32 k.val).setWidth 16) p k

/-- Group `g`'s zero points of column block `c`, sixteen equal rows. -/
theorem zrow_apply (zp : IVec S32x256 32) (g : Fin 32) (c : Fin 2) (r : Fin 16) (l : Fin 128) (x : BitVec 32) (n : Nat)
    (hx : zp (ix2 g (⟨c.val * 128 + l.val, by omega⟩ : Fin 256)) = zpair (field x n)) :
    zrow (F := F) zp g c (ix2 r l) = dec (field x n) := by
  unfold zrow
  rw [shapeCast_self]
  show FloatOps.ofBits .bf16 (bitcast S16x128 16 (broadcastTo S8x128 (extractStridedSlice S1x128 ![g.val, c.val * 128] zp (zrow_slices g c)) broadcasts_S1x128_S8x128) bitcasts_S8x128_w32_S16x128_w16 (ix2 r l)) = _
  rw [half_read, broadcastTo_apply (s := S1x128) _ _ _ (ix2 (0 : Fin 1) l) (fun a => by
      match a with
      | ⟨0, _⟩ => rfl
      | ⟨1, _⟩ => rfl),
    extractStridedSlice_apply (s := S32x256) (t := S1x128) _ _ _ _ (ix2 g (⟨c.val * 128 + l.val, by omega⟩ : Fin 256)) (fun a => by
      match a with
      | ⟨0, _⟩ => rfl
      | ⟨1, _⟩ => rfl), hx, zpair_half x n ⟨r.val % 2, by omega⟩]
  rfl

/-- A row of scales over sixteen rows. -/
theorem srow_apply (s : Vec F S1x128 .bf16) (r : Fin 16) (l : Fin 128) : srow s (ix2 r l) = s (ix2 (0 : Fin 1) l) := by
  unfold srow
  rw [shapeCast_self]
  exact broadcastTo_apply (s := S1x128) _ _ _ (ix2 (0 : Fin 1) l) (fun a => by
      match a with
      | ⟨0, _⟩ => rfl
      | ⟨1, _⟩ => rfl)

/-! ## A strip -/

/-- The packed rows a strip's sublanes read, from row `k` of the eight on. -/
def rowIdx (k : BitVec 32) : IVec S8x128 32 :=
  let v156 : IVec S8x128 32 := lanes
  let v184 : IVec S8x128 32 := divsi v156 (broadcast S8x128 4#32)
  let v191 : IVec S8x128 32 := subi (extui 32 (cmpi .sgt v156 (broadcast S8x128 0#32)) natLt_1_32) (extui 32 (cmpi .slt v156 (broadcast S8x128 0#32)) natLt_1_32)
  let v196 : BitVec 32 := Scalar.subi (Scalar.extui (Scalar.cmpi .sgt 4#32 0#32)) (Scalar.extui (Scalar.cmpi .slt 4#32 0#32))
  let v203 : IVec S8x128 1 := andi (cmpi .ne v191 (broadcast S8x128 v196)) (cmpi .ne (remsi v156 (broadcast S8x128 4#32)) (broadcast S8x128 0#32))
  let v206 : IVec S8x128 32 := select v203 (subi v184 (broadcast S8x128 1#32)) v184
  let v208 : IVec S8x128 32 := addi (broadcast S8x128 k) v206
  select (cmpi .slt v208 (broadcast S8x128 0#32)) (addi v208 (broadcast S8x128 8#32)) v208

/-- A byte's two four-bit fields as the two halves of a word. -/
def cpair (u : BitVec 32) : BitVec 32 := ((u &&& 15#32) ||| ((u <<< 12) &&& 983040#32)) ||| 1124090624#32

/-- The strip's codes, as words. -/
def cwords (q : Vec F S8x128 .i32) (k : BitVec 32) : IVec S8x128 32 :=
  let v217 : IVec S8x128 32 := shrui (dynamicGather 0 q (shapeCast S8x128 (shapeCast S8x128x1 (rowIdx k) shapeCasts_S8x128_S8x128x1) shapeCasts_S8x128x1_S8x128)) (shifts lanes)
  ori (ori (andi v217 (broadcast S8x128 15#32)) (andi (shli v217 (broadcast S8x128 12#32)) (broadcast S8x128 983040#32))) (broadcast S8x128 1124090624#32)

theorem strip_eq (q : Vec F S8x128 .i32) (z s : FVec F S16x128 .bf16) (k : BitVec 32) :
    strip lanes (shifts lanes) q z s k
      = shapeCast S16x128 (mulf (subf (bitcastToFloat .bf16 (bitcast S16x128 16 (cwords (F := F) q k) bitcasts_S8x128_w32_S16x128_w16)) z) s) shapeCasts_S16x128_S16x128 := rfl

theorem rowIdx_first : ∀ (m : Fin 4) (a : Fin 8),
    (rowIdx (BitVec.ofNat 32 (2 * m.val)) (ix2 a (0 : Fin 128))).toNat % 8 = 2 * m.val + a.val / 4 := by decide +kernel
theorem rowIdx_apply (m : Fin 4) (a : Fin 8) (l : Fin 128) :
    (rowIdx (BitVec.ofNat 32 (2 * m.val)) (ix2 a l)).toNat % 8 = 2 * m.val + a.val / 4 := rowIdx_first m a
theorem shifts_first : ∀ (a : Fin 8), shifts lanes (ix2 a (0 : Fin 128)) = BitVec.ofNat 32 (8 * (a.val % 4)) := by decide +kernel
theorem shifts_apply (a : Fin 8) (l : Fin 128) : shifts lanes (ix2 a l) = BitVec.ofNat 32 (8 * (a.val % 4)) := shifts_first a

theorem cwords_apply (q : Vec F S8x128 .i32) (m : Fin 4) (a : Fin 8) (l : Fin 128) :
    cwords (F := F) q (BitVec.ofNat 32 (2 * m.val)) (ix2 a l)
      = cpair (q (ix2 (⟨2 * m.val + a.val / 4, by omega⟩ : Fin 8) l) >>> (8 * (a.val % 4))) := by
  unfold cwords
  rw [shapeCast_shapeCast]
  have e : (dynamicGather 0 q (rowIdx (BitVec.ofNat 32 (2 * m.val)))) (ix2 a l) = q (ix2 (⟨2 * m.val + a.val / 4, by omega⟩ : Fin 8) l) := by
    unfold dynamicGather
    refine congrArg q (funext fun b => ?_)
    match b with
    | ⟨0, _⟩ => exact Fin.ext (rowIdx_apply m a l)
    | ⟨1, _⟩ => rfl
  rw [← e, ← shrui_ofNat _ _ (by omega), ← shifts_apply a l]
  rfl

theorem cpair_eq (u : BitVec 32) : cpair u = (field u 0 ||| (field u 1) <<< 16) ||| 1124090624#32 := by
  have h : (u <<< 12) &&& 983040#32 = (field u 1) <<< 16 := by
    unfold field
    apply BitVec.eq_of_getLsbD_eq
    intro i hi
    have : ∀ i : Fin 32, (983040#32).getLsbD i.val = (decide (16 ≤ i.val) && (15#32).getLsbD (i.val - 16)) := by decide
    have h' := this ⟨i, hi⟩
    simp only [BitVec.getLsbD_and, BitVec.getLsbD_shiftLeft, BitVec.getLsbD_ushiftRight] at h' ⊢
    rw [h']
    by_cases h16 : 16 ≤ i
    · have e : 4 * 1 + (i - 16) = i - 12 := by omega
      have e1 : ¬ i < 12 := by omega
      have e2 : ¬ i < 16 := by omega
      simp [h16, e, e1, e2, hi]
    · have e2 : i < 16 := by omega
      simp [h16, e2]
  unfold cpair
  rw [h]
  rfl

theorem cpair_half (u : BitVec 32) (p : Fin 2) : (cpair u).extractLsb' (16 * p.val) 16 = 17152#16 ||| (field u p.val).setWidth 16 := by
  rw [cpair_eq]
  obtain ⟨k0, h0⟩ := field_ofNat u 0
  obtain ⟨k1, h1⟩ := field_ofNat u 1
  have hp : field u p.val = BitVec.ofNat 32 (if p.val = 0 then k0.val else k1.val) := by
    match p with
    | ⟨0, _⟩ => exact h0
    | ⟨1, _⟩ => exact h1
  rw [hp, h0, h1]
  exact (by decide +kernel : ∀ (p : Fin 2) (k0 k1 : Fin 16), ((BitVec.ofNat 32 k0.val ||| (BitVec.ofNat 32 k1.val) <<< 16) ||| 1124090624#32).extractLsb' (16 * p.val) 16
    = 17152#16 ||| (BitVec.ofNat 32 (if p.val = 0 then k0.val else k1.val)).setWidth 16) p k0 k1

theorem field_shift (x : BitVec 32) (a n : Nat) : field (x >>> (4 * a)) n = field x (a + n) := by
  unfold field
  rw [← BitVec.shiftRight_add, Nat.mul_add]

/-- A strip's entry: the code of packed row `2 m + r / 8`, field `r % 8`. -/
theorem strip_apply (q : Vec F S8x128 .i32) (z s : FVec F S16x128 .bf16) (m : Fin 4) (r : Fin 16) (l : Fin 128) :
    strip lanes (shifts lanes) q z s (BitVec.ofNat 32 (2 * m.val)) (ix2 r l)
      = FloatOps.mulf (FloatOps.subf (dec (field (q (ix2 (⟨2 * m.val + r.val / 8, by omega⟩ : Fin 8) l)) (r.val % 8))) (z (ix2 r l))) (s (ix2 r l)) := by
  rw [strip_eq, shapeCast_self]
  show FloatOps.mulf (FloatOps.subf (FloatOps.ofBits .bf16 (bitcast S16x128 16 (cwords (F := F) q (BitVec.ofNat 32 (2 * m.val))) bitcasts_S8x128_w32_S16x128_w16 (ix2 r l))) (z (ix2 r l))) (s (ix2 r l)) = _
  rw [half_read, cwords_apply, cpair_half _ ⟨r.val % 2, by omega⟩]
  have e1 : (⟨2 * m.val + r.val / 2 / 4, by omega⟩ : Fin 8) = ⟨2 * m.val + r.val / 8, by omega⟩ := Fin.ext (by show 2 * m.val + r.val / 2 / 4 = 2 * m.val + r.val / 8; omega)
  have e2 : 8 * (r.val / 2 % 4) = 4 * (2 * (r.val / 2 % 4)) := by omega
  have e3 : 2 * (r.val / 2 % 4) + r.val % 2 = r.val % 8 := by omega
  show FloatOps.mulf (FloatOps.subf (FloatOps.ofBits .bf16 (17152#16 ||| (field (q (ix2 (⟨2 * m.val + r.val / 2 / 4, by omega⟩ : Fin 8) l) >>> (8 * (r.val / 2 % 4))) (r.val % 2)).setWidth 16)) (z (ix2 r l))) (s (ix2 r l)) = _
  rw [e2, field_shift, e1, e3]
  rfl

end Cert.KernelIdeal.Rolled

end
-- ==== Proof.Body.lean ====
module

public import proofs.«01_k».proof.Proof.Values
public import Idealize.ShloMosaic.Lib.Writes
public import Idealize.ShloMosaic.Lib.Memref
public import Idealize.ShloMosaic.Lib.Scf
public import Idealize.ShloMosaic.Lib.Pipeline.Frame

@[expose] public section

noncomputable section

/-! # The body's triple

The two halves fill the scratch buffer with the weights, strip by strip; the six row blocks are then multiplied by it,
activated and stored. -/

namespace Cert.KernelIdeal.Rolled

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts K0.Facts₀ Shapes1.Facts₀ Shapes2.Facts₀ Shapes3.Facts₀

variable {F : FTy → Type} [FloatOps F]

local notation "𝕄" => MT nD τ sig Unit (Elt F) ℕ (UR sig nD τ) ℕ

/-- The kernel's variants: none. -/
abbrev 𝒱₀ : Variants := Variants.none

section Rules

variable (c : Dev nD) {s : Shape} {e : EltTy} {cs : CoreSpace}

/-- A load of a rectangle of an owned memref. -/
theorem wp_load_owns {m : Memref sig .tc cs s e} {r : Rect s} {hl : m.view.LoadsAt r.toLoadRect}
    {k : (r.shape.Idx → Elt F e) → Prog (TpuEff nD τ sig (Elt F) Λ₀ .tc) PUnit} (X : s.Idx → Elt F e) {Q : PUnit → sProp 𝕄} :
    (owns (c : Thread nD τ) m fullShare X : sProp 𝕄)
      ⊢ iprop((owns (c : Thread nD τ) m fullShare X -∗ wp frame (wpE (defs₀ (F := F)) 𝒱₀ c none) Set.univ (k fun j => X (r.emb j)) Q)
        -∗ wp frame (wpE (defs₀ (F := F)) 𝒱₀ c none) Set.univ (.op (.load m r.toLoadRect hl) k) Q) := by
  unfold owns
  iintro ⟨%f, %hf, H⟩ HK
  subst hf
  iapply (wp_load (defs := defs₀ (F := F)) 𝒱₀ (c : Thread nD τ) none Set.univ (Q := Q) (m := m) (r := r.toLoadRect) (hl := hl) (k := k) (S := m.view.set) (q := fullShare) (f := f)
    (View.setOn_subset_set _ _)) $$ H
  iintro H
  iapply HK
  iexists f
  isplitr
  · ipureintro; rfl
  iexact H

/-- A store over a rectangle of an owned memref: what it holds after is named by what the rectangle and the rest hold. -/
theorem wp_store_owns {m : Memref sig .tc cs s e} {r : Rect s} {w : r.shape.Idx → Elt F e} {hx : (m.access r).Stores Finset.univ}
    {hm : Finset.univ = Finset.univ ∨ ∀ a, r.stride a = 1}
    {k : PUnit → Prog (TpuEff nD τ sig (Elt F) Λ₀ .tc) PUnit} (X : s.Idx → Elt F e) {Q : PUnit → sProp 𝕄} :
    (owns (c : Thread nD τ) m fullShare X : sProp 𝕄)
      ⊢ iprop((owns (c : Thread nD τ) m fullShare (r.overlay X w) -∗ wp frame (wpE (defs₀ (F := F)) 𝒱₀ c none) Set.univ (k ⟨⟩) Q)
        -∗ wp frame (wpE (defs₀ (F := F)) 𝒱₀ c none) Set.univ (.op (.store m r w Finset.univ hx hm) k) Q) := by
  unfold owns
  iintro ⟨%f, %hf, H⟩ HK
  subst hf
  iapply (wp_store (defs := defs₀ (F := F)) 𝒱₀ (c : Thread nD τ) none Set.univ (Q := Q) (m := m) (r := r) (w := w) (hx := hx) (hm := hm) (k := k) (S := m.view.set) (f := f)
    ((View.setOn_subset_set _ _).trans (m.view.set_slice_subset r))) $$ H
  iintro H
  iapply HK
  iexists ((m.access r).write (Elt F) f w Finset.univ)
  isplitr
  · ipureintro
    funext y
    by_cases hy : y ∈ r.set
    · obtain ⟨x, rfl⟩ := r.exists_idx_of_mem hy
      exact (View.read_slice_write_emb (v := m.view) r f w (Finset.mem_univ x)).trans (Rect.overlay_emb r _ w x).symm
    · exact (View.read_slice_write_of_not_mem (v := m.view) r f w Finset.univ (by rw [Rect.map_emb_univ]; exact hy)).trans
        (Rect.overlay_of_not_mem r _ w hy).symm
  iexact H

/-- A program that has ended. -/
theorem wp_done {Q : PUnit → sProp 𝕄} : Q ⟨⟩ ⊢ wp frame (wpE (defs₀ (F := F)) 𝒱₀ c none) Set.univ (.ret ⟨⟩) Q := by
  rw [wp_ret]
  iintro H
  imodintro
  iexact H

end Rules

/-! ## Filling the scratch buffer -/

/-- A weight: its code less its zero point, times its scale. -/
def weight (code zero : BitVec 32) (scale : Elt F .bf16) : Elt F .bf16 := FloatOps.mulf (FloatOps.subf (dec code) (dec zero)) scale

/-- One half's weight in row `K`, column `C`: of its packed rows, scales and zero point words. -/
def halfW (q : S512x256.Idx → Elt F .i32) (s : S32x256.Idx → Elt F .bf16) (zw : Fin 32 → Fin 256 → BitVec 32) (K : Fin 4096) (C : Fin 256) : Elt F .bf16 :=
  weight (field (q (ix2 (⟨K.val / 8, by omega⟩ : Fin 512) C)) (K.val % 8)) (field (zw ⟨K.val / 128, by omega⟩ C) (C.val % 8)) (s (ix2 (⟨K.val / 128, by omega⟩ : Fin 32) C))

/-- Column `C` of half `h`. -/
def halfCol (h : Fin 2) (C : Fin 256) : Fin 512 := ⟨h.val * 256 + C.val, by omega⟩

section Fill

variable (c : Dev nD) (arg8 : Memref sig .tc .vmem S4096x512 .bf16) (W : S4096x512.Idx → Elt F .bf16)

/-- The scratch buffer, holding `W` where `D` says. -/
def part (D : S4096x512.Idx → Prop) : sProp 𝕄 :=
  iprop(∃ X : S4096x512.Idx → Elt F .bf16, ⌜∀ y, D y → X y = W y⌝ ∗ owns (c : Thread nD τ) arg8 fullShare X)

/-- A program that extends the filled part from `D` to `D'`, keeping `R`. -/
def Fills (R : sProp 𝕄) (D D' : S4096x512.Idx → Prop) (p : Prog (TpuEff nD τ sig (Elt F) Λ₀ .tc) PUnit) : Prop :=
  ∀ K : PUnit → sProp 𝕄, iprop((R ∗ part c arg8 W D) ∗ ((R ∗ part c arg8 W D') -∗ K ⟨⟩))
    ⊢ wp frame (wpE (defs₀ (F := F)) 𝒱₀ c none) Set.univ p K

theorem part_mono {D D' : S4096x512.Idx → Prop} (h : ∀ y, D' y → D y) : part c arg8 W D ⊢ part c arg8 W D' := by
  unfold part
  iintro ⟨%X, %hX, H⟩
  iexists X
  isplitr
  · ipureintro; exact fun y hy => hX y (h y hy)
  iexact H

theorem Fills.weaken (R : sProp 𝕄) {D D₁ D' : S4096x512.Idx → Prop} {p : Prog (TpuEff nD τ sig (Elt F) Λ₀ .tc) PUnit}
    (hp : Fills c arg8 W R D D₁ p) (h : ∀ y, D' y → D₁ y) : Fills c arg8 W R D D' p := fun K => by
  iintro ⟨H, HK⟩
  iapply (hp K)
  isplitl [H]
  · iexact H
  iintro ⟨HR, HP⟩
  iapply HK
  isplitl [HR]
  · iexact HR
  iapply (part_mono c arg8 W h)
  iexact HP

/-- The programs of a list, each filling its own part. -/
theorem Fills.each (R : sProp 𝕄) {ι : Type} (f : ι → Prog (TpuEff nD τ sig (Elt F) Λ₀ .tc) PUnit) (dom : ι → S4096x512.Idx → Prop)
    (hf : ∀ a D, Fills c arg8 W R D (fun y => D y ∨ dom a y) (f a)) (l : List ι) (D : S4096x512.Idx → Prop) :
    Fills c arg8 W R D (fun y => D y ∨ ∃ a ∈ l, dom a y) (Rolled.each f l) := by
  induction l generalizing D with
  | nil =>
    intro K
    unfold Rolled.each
    iintro ⟨⟨HR, HP⟩, HK⟩
    iapply (wp_done (F := F) c)
    iapply HK
    isplitl [HR]
    · iexact HR
    iapply (part_mono c arg8 W (D := D) (fun y hy => by
      rcases hy with hy | ⟨a, ha, -⟩
      · exact hy
      · exact absurd ha (List.not_mem_nil)))
    iexact HP
  | cons a l ih =>
    intro K
    show _ ⊢ wp frame (wpE (defs₀ (F := F)) 𝒱₀ c none) Set.univ (f a >>= fun _ => Rolled.each f l) K
    rw [wp_bind]
    iintro ⟨H, HK⟩
    iapply (hf a D _)
    isplitl [H]
    · iexact H
    iintro H
    iapply ((ih _).weaken c arg8 W R (D₁ := fun y => (D y ∨ dom a y) ∨ ∃ b ∈ l, dom b y) (D' := fun y => D y ∨ ∃ b ∈ a :: l, dom b y) (fun y hy => by
      rcases hy with hy | ⟨b, hb, hd⟩
      · exact .inl (.inl hy)
      · rcases List.mem_cons.mp hb with rfl | hb
        · exact .inl (.inr hd)
        · exact .inr ⟨b, hb, hd⟩) K)
    isplitl [H]
    · iexact H
    iexact HK

/-- A strip's place: sixteen rows, 128 columns. -/
def stripDom (h : Fin 2) (g : Fin 32) (b t : Fin 2) (m : Fin 4) (y : S4096x512.Idx) : Prop :=
  (g.val * 128 + t.val * 64 + m.val * 16 ≤ (y 0).val ∧ (y 0).val < g.val * 128 + t.val * 64 + m.val * 16 + 16)
    ∧ (h.val * 256 + b.val * 128 ≤ (y 1).val ∧ (y 1).val < h.val * 256 + b.val * 128 + 128)

/-- The row and column of the scratch buffer a strip's entry goes to. -/
def stripIx (h : Fin 2) (g : Fin 32) (b t : Fin 2) (m : Fin 4) (r : Fin 16) (l : Fin 128) : S4096x512.Idx :=
  ix2 (⟨g.val * 128 + t.val * 64 + m.val * 16 + r.val, by omega⟩ : Fin 4096) (⟨h.val * 256 + b.val * 128 + l.val, by omega⟩ : Fin 512)

theorem fills_unit (R : sProp 𝕄) (harg8 : arg8.IsWhole) (h : Fin 2) (g : Fin 32) (b t : Fin 2) (q : Vec F S8x128 .i32) (z s : FVec F S16x128 .bf16) (m : Fin 4)
    (hW : ∀ (r : Fin 16) (l : Fin 128), strip lanes (shifts lanes) q z s (BitVec.ofNat 32 (2 * m.val)) (ix2 r l) = W (stripIx h g b t m r l))
    (D : S4096x512.Idx → Prop) :
    Fills c arg8 W R D (fun y => D y ∨ stripDom h g b t m y) (unit arg8 harg8 h g b t q z s m) := fun K => by
  unfold unit part
  simp only [Prog.lift, Prog.bind_op, Prog.bind_ret]
  iintro ⟨⟨HR, ⟨%X, %hX, H⟩⟩, HK⟩
  iapply (wp_load_owns (F := F) c X) $$ H
  iintro H
  iapply (wp_store_owns (F := F) c X) $$ H
  iintro H
  iapply (wp_done (F := F) c)
  iapply HK
  isplitl [HR]
  · iexact HR
  iexists _
  isplitr
  swap
  · iexact H
  ipureintro
  intro y hy
  by_cases hm : y ∈ (Rect.unit (s := S4096x512) ![g.val * 128 + t.val * 64 + m.val * 16, h.val * 256 + b.val * 128] S16x128.size (w_inb h g b t m)).set
  · obtain ⟨x, rfl⟩ := (Rect.unit (s := S4096x512) ![g.val * 128 + t.val * 64 + m.val * 16, h.val * 256 + b.val * 128] S16x128.size (w_inb h g b t m)).exists_idx_of_mem hm
    have e : (Rect.unit (s := S4096x512) ![g.val * 128 + t.val * 64 + m.val * 16, h.val * 256 + b.val * 128] S16x128.size (w_inb h g b t m)).emb x
        = stripIx h g b t m (x 0) (x 1) := funext fun a => Fin.ext (by
      match a with
      | ⟨0, _⟩ => show g.val * 128 + t.val * 64 + m.val * 16 + 1 * (x 0).val = g.val * 128 + t.val * 64 + m.val * 16 + (x 0).val; omega
      | ⟨1, _⟩ => show h.val * 256 + b.val * 128 + 1 * (x 1).val = h.val * 256 + b.val * 128 + (x 1).val; omega)
    refine (Rect.overlay_emb _ X _ x).trans (((congrArg _ (ix2_eta (n0 := 16) (n1 := 128) x)).symm.trans (hW (x 0) (x 1))).trans (congrArg W e.symm))
  · rw [Rect.overlay_of_not_mem _ _ _ hm]
    rcases hy with hy | hy
    · exact hX y hy
    · refine absurd ?_ hm
      rw [Rect.mem_set_unit]
      intro a
      match a with
      | ⟨0, _⟩ => exact hy.1
      | ⟨1, _⟩ => exact hy.2

variable (argq : Memref sig .tc .vmem S512x256 .i32) (args : Memref sig .tc .vmem S32x256 .bf16) (harg8 : arg8.IsWhole)
  (q : S512x256.Idx → Elt F .i32) (s : S32x256.Idx → Elt F .bf16)

/-- The packed rows and the scales. -/
abbrev inputs : sProp 𝕄 := iprop(owns (c : Thread nD τ) argq fullShare q ∗ owns (c : Thread nD τ) args fullShare s)

section Half

variable (h : Fin 2) (zp : IVec S32x256 32) (zw : Fin 32 → Fin 256 → BitVec 32)
  (hzp : ∀ (g : Fin 32) (C : Fin 256), zp (ix2 g C) = zpair (field (zw g C) (C.val % 8)))
  (hW : ∀ (K : Fin 4096) (C : Fin 256), W (ix2 K (halfCol h C)) = halfW q s zw K C)
include hzp hW

theorem strip_weight (g : Fin 32) (b t : Fin 2) (m : Fin 4) (r : Fin 16) (l : Fin 128) :
    strip lanes (shifts lanes) (fun j => q ((Rect.unit (s := S512x256) ![g.val * 16 + t.val * 8, b.val * 128] S8x128.size (q_inb g b t)).emb j))
        (zrow zp g b) (srow fun j => s ((Rect.unit (s := S32x256) ![g.val, b.val * 128] S1x128.size (s_inb g b)).emb j)) (BitVec.ofNat 32 (2 * m.val)) (ix2 r l)
      = W (stripIx h g b t m r l) := by
  have hl : (b.val * 128 + l.val) % 8 = l.val % 8 := by omega
  rw [strip_apply, srow_apply, zrow_apply zp g b r l _ _ (hzp g ⟨b.val * 128 + l.val, by omega⟩)]
  have e : stripIx h g b t m r l = ix2 (⟨g.val * 128 + t.val * 64 + m.val * 16 + r.val, by omega⟩ : Fin 4096)
      (halfCol h ⟨b.val * 128 + l.val, by omega⟩) := by
    unfold stripIx halfCol
    congr 1
    exact Fin.ext (Nat.add_assoc _ _ _)
  rw [e, hW]
  unfold halfW weight
  have eq : (Rect.unit (s := S512x256) ![g.val * 16 + t.val * 8, b.val * 128] S8x128.size (q_inb g b t)).emb (ix2 (⟨2 * m.val + r.val / 8, by omega⟩ : Fin 8) l)
      = ix2 (⟨(g.val * 128 + t.val * 64 + m.val * 16 + r.val) / 8, by omega⟩ : Fin 512) (⟨b.val * 128 + l.val, by omega⟩ : Fin 256) := funext fun a => Fin.ext (by
    match a with
    | ⟨0, _⟩ => show g.val * 16 + t.val * 8 + 1 * (2 * m.val + r.val / 8) = (g.val * 128 + t.val * 64 + m.val * 16 + r.val) / 8; omega
    | ⟨1, _⟩ => show b.val * 128 + 1 * l.val = b.val * 128 + l.val; omega)
  have eg : (⟨(g.val * 128 + t.val * 64 + m.val * 16 + r.val) / 128, by omega⟩ : Fin 32) = g := Fin.ext (by
    show (g.val * 128 + t.val * 64 + m.val * 16 + r.val) / 128 = g.val; omega)
  have es : (Rect.unit (s := S32x256) ![g.val, b.val * 128] S1x128.size (s_inb g b)).emb (ix2 (0 : Fin 1) l)
      = ix2 (⟨(g.val * 128 + t.val * 64 + m.val * 16 + r.val) / 128, by omega⟩ : Fin 32) (⟨b.val * 128 + l.val, by omega⟩ : Fin 256) := funext fun a => Fin.ext (by
    match a with
    | ⟨0, _⟩ => show g.val + 1 * 0 = (g.val * 128 + t.val * 64 + m.val * 16 + r.val) / 128; omega
    | ⟨1, _⟩ => show b.val * 128 + 1 * l.val = b.val * 128 + l.val; omega)
  have er : (g.val * 128 + t.val * 64 + m.val * 16 + r.val) % 8 = r.val % 8 := by omega
  show FloatOps.mulf (FloatOps.subf (dec (field (q ((Rect.unit (s := S512x256) ![g.val * 16 + t.val * 8, b.val * 128] S8x128.size (q_inb g b t)).emb (ix2 (⟨2 * m.val + r.val / 8, by omega⟩ : Fin 8) l))) (r.val % 8))) _)
    (s ((Rect.unit (s := S32x256) ![g.val, b.val * 128] S1x128.size (s_inb g b)).emb (ix2 (0 : Fin 1) l))) = _
  rw [eq, es]
  show _ = FloatOps.mulf (FloatOps.subf (dec (field (q _) ((g.val * 128 + t.val * 64 + m.val * 16 + r.val) % 8))) (dec (field (zw ⟨(g.val * 128 + t.val * 64 + m.val * 16 + r.val) / 128, _⟩ _) _))) _
  rw [er, eg]

theorem fills_tile (g : Fin 32) (b t : Fin 2) (D : S4096x512.Idx → Prop) :
    Fills c arg8 W (inputs c argq args q s) D (fun y => D y ∨ ∃ m ∈ [0, 1, 2, 3], stripDom h g b t m y)
      (tile argq arg8 harg8 h g b (zrow zp g b) (srow fun j => s ((Rect.unit (s := S32x256) ![g.val, b.val * 128] S1x128.size (s_inb g b)).emb j)) t) := fun K => by
  unfold tile
  simp only [Prog.lift, Prog.bind_op, Prog.bind_ret]
  iintro ⟨⟨⟨HQ, HS⟩, HP⟩, HK⟩
  iapply (wp_load_owns (F := F) c q) $$ HQ
  iintro HQ
  iapply (Fills.each c arg8 W (inputs c argq args q s) _ (fun m => stripDom h g b t m)
    (fun m D => fills_unit c arg8 W _ harg8 h g b t _ _ _ m (strip_weight W q s h zp zw hzp hW g b t m) D) [0, 1, 2, 3] D K)
  isplitr [HK]
  · isplitl [HQ HS]
    · isplitl [HQ]
      · iexact HQ
      iexact HS
    iexact HP
  iexact HK

theorem fills_block (g : Fin 32) (b : Fin 2) (D : S4096x512.Idx → Prop) :
    Fills c arg8 W (inputs c argq args q s) D (fun y => D y ∨ ∃ t ∈ [0, 1], ∃ m ∈ [0, 1, 2, 3], stripDom h g b t m y)
      (block argq args arg8 harg8 h zp g b) := fun K => by
  unfold block
  simp only [Prog.lift, Prog.bind_op, Prog.bind_ret]
  iintro ⟨⟨⟨HQ, HS⟩, HP⟩, HK⟩
  iapply (wp_load_owns (F := F) c s) $$ HS
  iintro HS
  iapply (Fills.each c arg8 W (inputs c argq args q s) _ (fun t y => ∃ m ∈ [0, 1, 2, 3], stripDom h g b t m y)
    (fun t D => fills_tile c arg8 W argq args harg8 q s h zp zw hzp hW g b t D) [0, 1] D K)
  isplitr [HK]
  · isplitl [HQ HS]
    · isplitl [HQ]
      · iexact HQ
      iexact HS
    iexact HP
  iexact HK

omit hzp hW in
theorem mem_groups : ∀ g : Fin 32, g ∈ ([0, 1, 2, 3, 4, 5, 6, 7, 8, 9, 10, 11, 12, 13, 14, 15, 16, 17, 18, 19, 20, 21, 22, 23, 24, 25, 26, 27, 28, 29, 30, 31] : List (Fin 32)) := by
  decide

omit hzp hW in
theorem fills_half_cover (y : S4096x512.Idx) (hy : h.val * 256 ≤ (y 1).val ∧ (y 1).val < h.val * 256 + 256) :
    ∃ g : Fin 32, ∃ b t : Fin 2, ∃ m : Fin 4, stripDom h g b t m y := by
  have h0 : (y 0).val < 4096 := (y 0).isLt
  refine ⟨⟨(y 0).val / 128, by omega⟩, ⟨((y 1).val - h.val * 256) / 128, by omega⟩, ⟨(y 0).val % 128 / 64, by omega⟩, ⟨(y 0).val % 64 / 16, by omega⟩, ⟨?_, ?_⟩, ⟨?_, ?_⟩⟩
  · show (y 0).val / 128 * 128 + (y 0).val % 128 / 64 * 64 + (y 0).val % 64 / 16 * 16 ≤ (y 0).val; omega
  · show (y 0).val < (y 0).val / 128 * 128 + (y 0).val % 128 / 64 * 64 + (y 0).val % 64 / 16 * 16 + 16; omega
  · show h.val * 256 + ((y 1).val - h.val * 256) / 128 * 128 ≤ (y 1).val; omega
  · show (y 1).val < h.val * 256 + ((y 1).val - h.val * 256) / 128 * 128 + 128; omega

theorem fills_half (D : S4096x512.Idx → Prop) :
    Fills c arg8 W (inputs c argq args q s) D (fun y => D y ∨ (h.val * 256 ≤ (y 1).val ∧ (y 1).val < h.val * 256 + 256))
      (half argq args arg8 harg8 h zp) := by
  unfold half
  refine (Fills.each c arg8 W (inputs c argq args q s) _ (fun g y => ∃ b ∈ [0, 1], ∃ t ∈ [0, 1], ∃ m ∈ [0, 1, 2, 3], stripDom h g b t m y)
    (fun g D => Fills.each c arg8 W (inputs c argq args q s) _ (fun b y => ∃ t ∈ [0, 1], ∃ m ∈ [0, 1, 2, 3], stripDom h g b t m y)
      (fun b D => fills_block c arg8 W argq args harg8 q s h zp zw hzp hW g b D) [0, 1] D) _ D).weaken c arg8 W _ (fun y hy => ?_)
  rcases hy with hy | hy
  · exact Or.inl hy
  · obtain ⟨g, b, t, m, hd⟩ := fills_half_cover h y hy
    have h2 : ∀ a : Fin 2, a ∈ ([0, 1] : List (Fin 2)) := by decide
    have h4 : ∀ a : Fin 4, a ∈ ([0, 1, 2, 3] : List (Fin 4)) := by decide
    exact Or.inr ⟨g, mem_groups g, b, h2 b, t, h2 t, m, h4 m, hd⟩

end Half

end Fill

/-! ## The row blocks -/

theorem trips_eq : k0_t1_loop.trips = 6 := by decide

/-- Rows `512 k … 512 k + 511` of the activations. -/
def xBlock (X : S3072x4096.Idx → Elt F .bf16) (k : Fin 6) : FVec F S512x4096 .bf16 :=
  fun j => X (ix2 (⟨512 * k.val + (j 0).val, by have : (j 0).val < 512 := (j 0).isLt; omega⟩ : Fin 3072) (j 1 : Fin 4096))

/-- A row block's product with the weights: gate columns first. -/
def outProd (x : FVec F S512x4096 .bf16) (W : S4096x512.Idx → Elt F .bf16) : FVec F S512x512 .f32 :=
  matmul (F := F) dot_S512x4096_S4096x512_S512x512_1_0_0_1_n_n none x W (constant S512x512 .f32 0x00000000#32)

/-- The gate columns times their logistic, times the up columns. -/
def gated (p : FVec F S512x512 .f32) : FVec F S512x256 .bf16 :=
  let g : FVec F S512x256 .f32 := extractStridedSlice S512x256 ![0, 0] p slices_S512x512_o0_0_S512x256
  let u : FVec F S512x256 .f32 := extractStridedSlice S512x256 ![0, 256] p slices_S512x512_o0_256_S512x256
  truncf .bf16 (mulf (mulf g (logistic g)) u) bitsLt_bf16_f32

/-- What a row block of the result holds. -/
def outBlock (X : S3072x4096.Idx → Elt F .bf16) (W : S4096x512.Idx → Elt F .bf16) (k : Fin 6) : FVec F S512x256 .bf16 :=
  gated (outProd (xBlock X k) W)

/-- The six row blocks together. -/
def outAll (X : S3072x4096.Idx → Elt F .bf16) (W : S4096x512.Idx → Elt F .bf16) : S3072x256.Idx → Elt F .bf16 :=
  fun y => outBlock X W ⟨(y 0).val / 512, by have : (y 0).val < 3072 := (y 0).isLt; omega⟩
    (ix2 (⟨(y 0).val % 512, by omega⟩ : Fin 512) (y 1 : Fin 256))

section Rows

variable (c : Dev nD) (arg1 : Memref sig .tc .vmem S3072x4096 .bf16) (arg7 : Memref sig .tc .vmem S3072x256 .bf16) (harg7 : arg7.IsWhole)
  (arg8 : Memref sig .tc .vmem S4096x512 .bf16) (X : S3072x4096.Idx → Elt F .bf16) (W : S4096x512.Idx → Elt F .bf16)

/-- The loop's invariant: the first `n` row blocks of the result stored. -/
def rowsInv (n : Nat) : sProp 𝕄 :=
  iprop((owns (c : Thread nD τ) arg1 fullShare X ∗ owns (c : Thread nD τ) arg8 fullShare W)
    ∗ ∃ Y : S3072x256.Idx → Elt F .bf16, ⌜∀ y, (y 0).val < 512 * n → Y y = outAll X W y⌝ ∗ owns (c : Thread nD τ) arg7 fullShare Y)

theorem sound_rowStep (k : Fin k0_t1_loop.trips) :
    rowsInv c arg1 arg7 arg8 X W k.val
      ⊢ wp frame (wpE (defs₀ (F := F)) 𝒱₀ c none) Set.univ (rowStep arg1 arg7 harg7 arg8 k) fun _ => rowsInv c arg1 arg7 arg8 X W (k.val + 1) := by
  have hk : k.val < 6 := trips_eq ▸ k.isLt
  unfold rowsInv rowStep
  simp only [Prog.lift, Prog.bind_op, Prog.bind_ret]
  iintro ⟨⟨H1, H8⟩, ⟨%Y', %hY, H7⟩⟩
  iapply (wp_load_owns (F := F) c X) $$ H1
  iintro H1
  iapply (wp_load_owns (F := F) c W) $$ H8
  iintro H8
  iapply (wp_load_owns (F := F) c Y') $$ H7
  iintro H7
  iapply (wp_store_owns (F := F) c Y') $$ H7
  iintro H7
  iapply (wp_done (F := F) c)
  isplitl [H1 H8]
  · isplitl [H1]
    · iexact H1
    iexact H8
  iexists _
  isplitr
  swap
  · iexact H7
  ipureintro
  intro y hy
  have e4 := Gen.k0_off4_eq k
  by_cases hlt : (y 0).val < 512 * k.val
  · rw [Rect.overlay_of_not_mem]
    · exact hY y hlt
    · rw [Rect.mem_set_unit]
      intro h
      have := (h 0).1
      rw [e4] at this
      have h2 : 512 * k.val ≤ (y 0).val := this
      omega
  · have hy2 : (y 0).val < 512 * k.val + 512 := by omega
    have ey : y = (Rect.unit (s := S3072x256) (k0_off4 k) S512x256.size (k0_off4_inb k)).emb
        (ix2 (⟨(y 0).val % 512, by omega⟩ : Fin 512) (y 1 : Fin 256)) := by
      funext a
      apply Fin.ext
      have h := congrFun e4 a
      fin_cases a
      · show (y 0).val = k0_off4 k 0 + 1 * ((y 0).val % 512)
        have h : k0_off4 k 0 = 512 * k.val := h
        omega
      · show (y 1).val = k0_off4 k 1 + 1 * (y 1).val
        have h : k0_off4 k 1 = 0 := h
        omega
    have ek : (⟨(y 0).val / 512, by have : (y 0).val < 3072 := (y 0).isLt; omega⟩ : Fin 6) = ⟨k.val, hk⟩ := Fin.ext (by show (y 0).val / 512 = k.val; omega)
    have eX : (shapeCast S512x4096 (fun j => X ((Rect.unit (s := S3072x4096) (k0_off3 k) S512x4096.size (k0_off3_inb k)).emb j) : Vec F S512x4096 .bf16)
        shapeCasts_S512x4096_S512x4096 : FVec F S512x4096 .bf16) = xBlock X ⟨k.val, hk⟩ := by
      rw [shapeCast_self]
      funext j
      refine congrArg X (funext fun a => Fin.ext ?_)
      have h := congrFun (Gen.k0_off3_eq k) a
      fin_cases a
      · show k0_off3 k 0 + 1 * (j 0).val = 512 * k.val + (j 0).val
        have h : k0_off3 k 0 = 512 * k.val := h
        omega
      · show k0_off3 k 1 + 1 * (j 1).val = (j 1).val
        have h : k0_off3 k 1 = 0 := h
        omega
    have eW : (fun j => W ((Rect.unit (s := S4096x512) ![0, 0] S4096x512.size inb_S4096x512_S4096x512_0_0).emb j)) = W := by
      funext j
      refine congrArg W (funext fun a => Fin.ext ?_)
      fin_cases a
      · show 0 + 1 * (j 0).val = (j 0).val
        omega
      · show 0 + 1 * (j 1).val = (j 1).val
        omega
    refine (congrArg _ ey).trans ((Rect.overlay_emb _ Y' _ _).trans ?_)
    unfold outAll
    rw [ek]
    exact congrFun (congrArg₂ (fun x w => gated (outProd (F := F) x w)) eX eW) _

theorem sound_rows (K : PUnit → sProp 𝕄) :
    iprop((owns (c : Thread nD τ) arg1 fullShare X ∗ owns (c : Thread nD τ) arg8 fullShare W ∗ ∃ Y, owns (c : Thread nD τ) arg7 fullShare Y)
        ∗ ((owns (c : Thread nD τ) arg1 fullShare X ∗ owns (c : Thread nD τ) arg8 fullShare W ∗ owns (c : Thread nD τ) arg7 fullShare (outAll X W)) -∗ K ⟨⟩))
      ⊢ wp frame (wpE (defs₀ (F := F)) 𝒱₀ c none) Set.univ (rows arg1 arg7 harg7 arg8) K := by
  unfold rows
  iintro ⟨⟨H1, H8, ⟨%Y, H7⟩⟩, HK⟩
  iapply (Scf.wp_for_bind frame (wpE (defs₀ (F := F)) 𝒱₀ c none) Set.univ k0_t1_loop.lb k0_t1_loop.ub k0_t1_loop.st k0_t1_ok ⟨⟩ _
    (fun n _ => rowsInv c arg1 arg7 arg8 X W n) (fun k _ => sound_rowStep c arg1 arg7 harg7 arg8 X W k)) $$ [H1 H8 H7]
  · unfold rowsInv
    isplitl [H1 H8]
    · isplitl [H1]
      · iexact H1
      iexact H8
    iexists Y
    isplitr
    · ipureintro; intro y hy; omega
    iexact H7
  · iintro %acc HI
    iapply (wp_done (F := F) c)
    iapply HK
    unfold rowsInv
    icases HI with ⟨⟨H1, H8⟩, ⟨%Y', %hY, H7⟩⟩
    isplitl [H1]
    · iexact H1
    isplitl [H8]
    · iexact H8
    have e : Y' = outAll X W := funext fun y => hY y (by
      have : (y 0).val < 3072 := (y 0).isLt
      have := trips_eq
      show (y 0).val < 512 * k0_t1_loop.trips
      omega)
    rw [← e]
    iexact H7

end Rows

end Cert.KernelIdeal.Rolled

end
-- ==== Proof.Sound.lean ====
module

public import proofs.«01_k».proof.Proof.Body

@[expose] public section

noncomputable section

/-! # The whole body

What one grid point computes, of the blocks it is handed: the weights, then the six row blocks. -/

namespace Cert.KernelIdeal.Rolled

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts K0.Facts₀ Shapes1.Facts₀ Shapes2.Facts₀ Shapes3.Facts₀

variable {F : FTy → Type} [FloatOps F]

local notation "𝕄" => MT nD τ sig Unit (Elt F) ℕ (UR sig nD τ) ℕ

/-- The zero point word of group `g` for the gate's column `C` of point `n`: eight columns share one. -/
def zGate (Z : S32x2816.Idx → BitVec 32) (n : Fin 43) (g : Fin 32) (C : Fin 256) : BitVec 32 :=
  Z (ix2 g (⟨32 * n.val + C.val / 8, by omega⟩ : Fin 2816))

/-- The same for the up half. -/
def zUp (Z : S32x2816.Idx → BitVec 32) (n : Fin 43) (g : Fin 32) (C : Fin 256) : BitVec 32 :=
  Z (ix2 g (⟨1376 + 32 * n.val + C.val / 8, by omega⟩ : Fin 2816))

/-- The weights of point `n`: 256 gate columns, then 256 up columns. -/
def tileW (n : Fin 43) (qg qu : S512x256.Idx → Elt F .i32) (sg su : S32x256.Idx → Elt F .bf16) (Z : S32x2816.Idx → Elt F .i32) :
    S4096x512.Idx → Elt F .bf16 := fun y =>
  if h : (y 1).val < 256 then halfW (F := F) qg sg (zGate Z n) (y 0 : Fin 4096) ⟨(y 1).val, h⟩
  else halfW (F := F) qu su (zUp Z n) (y 0 : Fin 4096) ⟨(y 1).val - 256, by have : (y 1).val < 512 := (y 1).isLt; omega⟩

theorem tileW_gate (n : Fin 43) (qg qu : S512x256.Idx → Elt F .i32) (sg su : S32x256.Idx → Elt F .bf16) (Z : S32x2816.Idx → Elt F .i32)
    (K : Fin 4096) (C : Fin 256) : tileW (F := F) n qg qu sg su Z (ix2 K (halfCol 0 C)) = halfW qg sg (zGate Z n) K C := by
  have e : ∀ c : Fin 512, c.val = C.val → tileW (F := F) n qg qu sg su Z (ix2 K c) = halfW qg sg (zGate Z n) K C := by
    intro c hc
    have h : ((ix2 K c : S4096x512.Idx) 1).val < 256 := by show c.val < 256; omega
    unfold tileW
    rw [dif_pos h]
    exact congrArg (halfW (F := F) qg sg (zGate Z n) K) (Fin.ext hc)
  exact e _ (by show 0 * 256 + C.val = C.val; omega)

theorem tileW_up (n : Fin 43) (qg qu : S512x256.Idx → Elt F .i32) (sg su : S32x256.Idx → Elt F .bf16) (Z : S32x2816.Idx → Elt F .i32)
    (K : Fin 4096) (C : Fin 256) : tileW (F := F) n qg qu sg su Z (ix2 K (halfCol 1 C)) = halfW qu su (zUp Z n) K C := by
  have e : ∀ c : Fin 512, c.val = 256 + C.val → tileW (F := F) n qg qu sg su Z (ix2 K c) = halfW qu su (zUp Z n) K C := by
    intro c hc
    have h : ¬ ((ix2 K c : S4096x512.Idx) 1).val < 256 := by show ¬ c.val < 256; omega
    unfold tileW
    rw [dif_neg h]
    exact congrArg (halfW (F := F) qu su (zUp Z n) K) (Fin.ext (show c.val - 256 = C.val by omega))
  exact e _ (by show 1 * 256 + C.val = 256 + C.val; omega)

theorem k0_off1_eq : ∀ i : grid0.Coords, k0_off1 i = ![0, 128 * ((32 * (i 0).val) / 128)] := by decide +kernel

theorem gate_words (i : grid0.Coords) (Z : S32x2816.Idx → Elt F .i32) (g : Fin 32) (C : Fin 256) :
    zeroPairs (F := F) (Scalar.muli (BitVec.ofNat 32 (i 0).val) 32#32)
        (fun j => Z ((Rect.unit (s := S32x2816) (k0_off1 i) S32x128.size (k0_off1_inb i)).emb j)) (ix2 g C)
      = zpair (field (zGate Z (i 0) g C) (C.val % 8)) := by
  have hn : (i 0).val < 43 := (i 0).isLt
  rw [zeroPairs_apply _ ⟨(i 0).val % 4, by omega⟩ (wbase_gate (i 0))]
  refine congrArg (fun w => zpair (field w (C.val % 8))) (congrArg Z (funext fun a => Fin.ext ?_))
  have h := congrFun (k0_off1_eq i) a
  fin_cases a
  · show k0_off1 i 0 + 1 * g.val = g.val
    have h : k0_off1 i 0 = 0 := h
    omega
  · show k0_off1 i 1 + 1 * (32 * ((i 0).val % 4) + C.val / 8) = 32 * (i 0).val + C.val / 8
    have h : k0_off1 i 1 = 128 * ((32 * (i 0).val) / 128) := h
    omega

theorem up_words (i : grid0.Coords) (Z : S32x2816.Idx → Elt F .i32) (g : Fin 32) (C : Fin 256) :
    zeroPairs (F := F) (Scalar.addi 1376#32 (Scalar.muli (BitVec.ofNat 32 (i 0).val) 32#32))
        (fun j => Z ((Rect.unit (s := S32x2816) (k0_off2 i) S32x128.size (k0_off2_inb i)).emb j)) (ix2 g C)
      = zpair (field (zUp Z (i 0) g C) (C.val % 8)) := by
  have hn : (i 0).val < 43 := (i 0).isLt
  rw [zeroPairs_apply _ ⟨((i 0).val + 3) % 4, by omega⟩ (wbase_up (i 0))]
  refine congrArg (fun w => zpair (field w (C.val % 8))) (congrArg Z (funext fun a => Fin.ext ?_))
  have h := congrFun (Gen.k0_off2_eq i) a
  fin_cases a
  · show k0_off2 i 0 + 1 * g.val = g.val
    have h : k0_off2 i 0 = 0 := h
    omega
  · show k0_off2 i 1 + 1 * (32 * (((i 0).val + 3) % 4) + C.val / 8) = 1376 + 32 * (i 0).val + C.val / 8
    have h : k0_off2 i 1 = 128 * ((32 * (i 0).val + 1376) / 128) := h
    omega

/-- The body's triple: the inputs are kept, the scratch buffer ends at the point's weights, the result's block at the six
row blocks. -/
theorem sound_body (c : Dev nD) (i : grid0.Coords) (arg1 : Memref sig .tc .vmem S3072x4096 .bf16) (harg1 : arg1.IsWhole) (arg2 : Memref sig .tc .vmem S512x256 .i32) (harg2 : arg2.IsWhole) (arg3 : Memref sig .tc .vmem S512x256 .i32) (harg3 : arg3.IsWhole) (arg4 : Memref sig .tc .vmem S32x256 .bf16) (harg4 : arg4.IsWhole) (arg5 : Memref sig .tc .vmem S32x256 .bf16) (harg5 : arg5.IsWhole) (arg6 : Memref sig .tc .vmem S32x2816 .i32) (harg6 : arg6.IsWhole) (arg7 : Memref sig .tc .vmem S3072x256 .bf16) (harg7 : arg7.IsWhole) (arg8 : Memref sig .tc .vmem S4096x512 .bf16) (harg8 : arg8.IsWhole)
    (X : S3072x4096.Idx → Elt F .bf16) (qg qu : S512x256.Idx → Elt F .i32) (sg su : S32x256.Idx → Elt F .bf16) (Z : S32x2816.Idx → Elt F .i32)
    (Y : S3072x256.Idx → Elt F .bf16) (S : S4096x512.Idx → Elt F .bf16) (K : PUnit → sProp 𝕄) :
    iprop((owns (c : Thread nD τ) arg1 fullShare X ∗ owns (c : Thread nD τ) arg2 fullShare qg ∗ owns (c : Thread nD τ) arg3 fullShare qu
          ∗ owns (c : Thread nD τ) arg4 fullShare sg ∗ owns (c : Thread nD τ) arg5 fullShare su ∗ owns (c : Thread nD τ) arg6 fullShare Z
          ∗ owns (c : Thread nD τ) arg7 fullShare Y ∗ owns (c : Thread nD τ) arg8 fullShare S)
        ∗ ((owns (c : Thread nD τ) arg1 fullShare X ∗ owns (c : Thread nD τ) arg2 fullShare qg ∗ owns (c : Thread nD τ) arg3 fullShare qu
          ∗ owns (c : Thread nD τ) arg4 fullShare sg ∗ owns (c : Thread nD τ) arg5 fullShare su ∗ owns (c : Thread nD τ) arg6 fullShare Z
          ∗ owns (c : Thread nD τ) arg7 fullShare (outAll X (tileW (i 0) qg qu sg su Z))
          ∗ owns (c : Thread nD τ) arg8 fullShare (tileW (i 0) qg qu sg su Z)) -∗ K ⟨⟩))
      ⊢ wp frame (wpE (defs₀ (F := F)) 𝒱₀ c none) Set.univ
          (cc0_gate_up_swiglu (F := F) i arg1 harg1 arg2 harg2 arg3 harg3 arg4 harg4 arg5 harg5 arg6 harg6 arg7 harg7 arg8 harg8) K := by
  rw [body_eq]
  unfold body
  have hg := tileW_gate (F := F) (i 0) qg qu sg su Z
  have hu := tileW_up (F := F) (i 0) qg qu sg su Z
  generalize hW : tileW (F := F) (i 0) qg qu sg su Z = W at hg hu ⊢
  simp only [Prog.lift, Prog.bind_op, Prog.bind_ret]
  iintro ⟨⟨H1, H2, H3, H4, H5, H6, H7, H8⟩, HK⟩
  iapply (wp_load_owns (F := F) c Z) $$ H6
  iintro H6
  rw [wp_bind]
  iapply (fills_half c arg8 W arg2 arg4 harg8 qg sg 0 _ (zGate Z (i 0)) (gate_words i Z) hg (fun _ => False) _)
  isplitl [H2 H4 H8]
  · isplitl [H2 H4]
    · unfold inputs
      isplitl [H2]
      · iexact H2
      iexact H4
    unfold part
    iexists S
    isplitr
    · ipureintro; intro y hy; exact hy.elim
    iexact H8
  iintro ⟨HI, H8⟩
  iapply (wp_load_owns (F := F) c Z) $$ H6
  iintro H6
  rw [wp_bind]
  iapply (fills_half c arg8 W arg3 arg5 harg8 qu su 1 _ (zUp Z (i 0)) (up_words i Z) hu _ _)
  unfold inputs
  icases HI with ⟨H2, H4⟩
  isplitl [H3 H5 H8]
  · isplitl [H3 H5]
    · isplitl [H3]
      · iexact H3
      iexact H5
    iexact H8
  iintro ⟨⟨H3, H5⟩, H8⟩
  unfold part
  icases H8 with ⟨%S', %hS, H8⟩
  have e : S' = W := funext fun y => hS y (by
    have : (y 1).val < 512 := (y 1).isLt
    by_cases h : (y 1).val < 256
    · exact Or.inl (Or.inr ⟨Nat.zero_le _, by show _ < 0 * 256 + 256; omega⟩)
    · exact Or.inr ⟨by show 1 * 256 ≤ _; omega, by show _ < 1 * 256 + 256; omega⟩)
  subst e
  iapply (sound_rows c arg1 arg7 harg7 arg8 X S' K)
  isplitl [H1 H7 H8]
  · isplitl [H1]
    · iexact H1
    isplitl [H8]
    · iexact H8
    iexists Y
    iexact H7
  iintro ⟨H1, H8, H7⟩
  iapply HK
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  iexact H8

end Cert.KernelIdeal.Rolled

end
-- ==== Proof.Run.lean ====
module

public import proofs.«01_k».proof.Proof.Sound
public import proofs.«01_k».proof.Proof.Gen.KernelIdeal.Frame

@[expose] public section

noncomputable section

/-! # The kernel's run

Every execution ends; the result's block at each point holds what the body computes of the blocks staged there. -/

namespace Cert.KernelIdeal.Rolled

open Cert.KernelIdeal Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-- The weights do not depend on the zero point words past the array's last column. -/
theorem tileW_congr (n : Fin 43) (qg qu : S512x256.Idx → Elt F .i32) (sg su : S32x256.Idx → Elt F .bf16) (Z Z' : S32x2816.Idx → Elt F .i32)
    (h : ∀ j, (j 1).val < 2752 → Z j = Z' j) : tileW (F := F) n qg qu sg su Z = tileW n qg qu sg su Z' := by
  have hg : zGate Z n = zGate Z' n := funext fun g => funext fun C => h _ (show 32 * n.val + C.val / 8 < 2752 by omega)
  have hu : zUp Z n = zUp Z' n := funext fun g => funext fun C => h _ (show 1376 + 32 * n.val + C.val / 8 < 2752 by omega)
  unfold tileW
  rw [hg, hu]

variable (m : (ℓ : Loc nD τ sig) → Buf (Elt F) ℓ) (ρ : Dev nD → PrngReg)

/-- The zero point words staged at point `t`, zero past the array's last column. -/
@[irreducible] def zeros (c : Dev nD) (t : Fin cfg0.N) : S32x2816.Idx → Elt F .i32 :=
  win0_5.fill (grid0.coords t) (fun _ => (0#32 : BitVec 32)) (Gen.iblk m c 5 t)

/-- Point `t`'s block of the result. -/
def outT (c : Dev nD) (t : Fin cfg0.N) : S3072x256.Idx → Elt F .bf16 :=
  outAll (Gen.iblk m c 0 t) (tileW (grid0.coords t 0) (Gen.iblk m c 1 t) (Gen.iblk m c 2 t) (Gen.iblk m c 3 t) (Gen.iblk m c 4 t) (zeros m c t))

theorem cut_zeros (c : Dev nD) (t : Fin cfg0.N) : win0_5.cut (grid0.coords t) (zeros m c t) = Gen.iblk m c 5 t := by
  unfold zeros
  exact win0_5.cut_fill _ _ _

theorem moved_5 (t : Fin cfg0.N) (j : S32x2816.Idx) (h : (j 1).val < 2752) : win0_5.moved (grid0.coords t) j = true := by
  refine (win0_5.moved_iff _ j).mpr fun a => ?_
  have e : ∀ t : Fin grid0.N, win0_5.xsize (grid0.coords t) 0 = 32 ∧ win0_5.xsize (grid0.coords t) 1 = 2752 := by decide +kernel
  match a with
  | ⟨0, _⟩ =>
    have h0 : (j 0).val < 32 := (j 0).isLt
    exact lt_of_lt_of_eq h0 (e t).1.symm
  | ⟨1, _⟩ => exact lt_of_lt_of_eq h (e t).2.symm

/-- What the staged zero point words hold where the array has them does not depend on what filled the rest. -/
theorem tile_fill (c : Dev nD) (t : Fin cfg0.N) (n : Fin 43) (qg qu : S512x256.Idx → Elt F .i32) (sg su : S32x256.Idx → Elt F .bf16) (d : S32x2816.Idx → Elt F .i32) :
    tileW (F := F) n qg qu sg su (win0_5.fill (grid0.coords t) d (Gen.iblk m c 5 t)) = tileW n qg qu sg su (zeros m c t) := by
  refine tileW_congr n qg qu sg su _ _ fun j h => ?_
  unfold zeros Window.fill
  rw [dif_pos (moved_5 t j h), dif_pos (moved_5 t j h)]

/-- The proof data: the inputs stay, the result's block is `outT`. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => zeros m c t
    | ⟨6, _⟩ => outT m c t
  Φ _ := Pipeline.ΦA spec0 c
  q w := Pipeline.shareOf spec0 w
  owed _ := 0

theorem after_5 (c : Dev nD) (t : Fin cfg0.N) : (dats m 0 c).after 5 t = zeros m c t := rfl
theorem cut_after_5 (c : Dev nD) (t : Fin cfg0.N) : win0_5.cut (grid0.coords t) ((dats m 0 c).after 5 t) = Gen.iblk m c 5 t := by
  rw [after_5]
  exact cut_zeros m c t

theorem before_0 (c : Dev nD) (t : Fin cfg0.N) (d) : (dats m 0 c).before 0 t d = Gen.iblk m c 0 t :=
  Gen.before0_0_of m (dats m 0 c) rfl (fun _ => rfl) t d
theorem before_1 (c : Dev nD) (t : Fin cfg0.N) (d) : (dats m 0 c).before 1 t d = Gen.iblk m c 1 t :=
  Gen.before0_1_of m (dats m 0 c) rfl (fun _ => rfl) t d
theorem before_2 (c : Dev nD) (t : Fin cfg0.N) (d) : (dats m 0 c).before 2 t d = Gen.iblk m c 2 t :=
  Gen.before0_2_of m (dats m 0 c) rfl (fun _ => rfl) t d
theorem before_3 (c : Dev nD) (t : Fin cfg0.N) (d) : (dats m 0 c).before 3 t d = Gen.iblk m c 3 t :=
  Gen.before0_3_of m (dats m 0 c) rfl (fun _ => rfl) t d
theorem before_4 (c : Dev nD) (t : Fin cfg0.N) (d) : (dats m 0 c).before 4 t d = Gen.iblk m c 4 t :=
  Gen.before0_4_of m (dats m 0 c) rfl (fun _ => rfl) t d

/-- The zero point words are fetched at the first point and stay. -/
theorem before_5 (c : Dev nD) (t : Fin cfg0.N) (d) :
    (dats m 0 c).before 5 t d = win0_5.fill (grid0.coords t) d (Gen.iblk m c 5 t) := by
  unfold Dat.before
  by_cases hf : (cfg0.win 5).fetch t = true
  · rw [if_pos hf]; rfl
  · rw [if_neg hf]
    have ht : ¬ t.val = 0 := fun h => hf ((Gen.fetch0_5 t).mpr (by rw [h]))
    rw [if_neg ht]
    have hfl : ¬ (cfg0.win 5).flush ⟨t.val - 1, Nat.lt_of_le_of_lt (Nat.sub_le _ _) t.isLt⟩ = true := by
      rw [(cfg0.win 5).flush_in rfl]; exact Bool.false_ne_true
    simp only
    rw [if_neg hfl]
    show (dats m 0 c).kept 5 ⟨t.val - 1, Nat.lt_of_le_of_lt (Nat.sub_le _ _) t.isLt⟩ d = (dats m 0 c).fetched 5 t d
    refine Eq.trans ?_ ((dats m 0 c).fetched_congr 5 (t := ⟨t.val - 1, Nat.lt_of_le_of_lt (Nat.sub_le _ _) t.isLt⟩) (t' := t) rfl rfl d)
    exact congrArg (win0_5.fill (grid0.coords ⟨t.val - 1, Nat.lt_of_le_of_lt (Nat.sub_le _ _) t.isLt⟩) d) (cut_after_5 m c _)

theorem defs₀_row (t : Fin cfg0.N) : defs₀ (F := F) .tc cfg0.body (cfg0.bodyArgs t (cfg0.slots t)) = Gen.bodyAt0 t := by
  unfold defs₀; rw [Defs.onTc_tc]

theorem scratch_any (c : Dev nD) (S : S4096x512.Idx → Elt F .bf16) :
    (owns (c : Thread nD τ) (Memref.whole cc0_scratch0) fullShare S : sProp 𝕄)
      ⊢ iprop(∃ f : Buf (Elt F) ((c : Thread nD τ).loc cc0_scratch0), ((c : Thread nD τ).loc cc0_scratch0) ↦{fullShare} f) := by
  simp only [owns_whole_eq]
  iintro ⟨%f, %hf, H⟩
  iexists f
  iexact H

theorem body_triple (c : Dev nD) (t : Fin cfg0.N) :
    iprop(Pipeline.ΦA spec0 c ∗ (dats (F := F) m 0 c).owesAt () t.castSucc
        ∗ (∃ d, owns (c : Thread nD τ) (Gen.st0_0 t) fullShare ((dats (F := F) m 0 c).before 0 t d))
        ∗ (∃ d, owns (c : Thread nD τ) (Gen.st0_1 t) fullShare ((dats (F := F) m 0 c).before 1 t d))
        ∗ (∃ d, owns (c : Thread nD τ) (Gen.st0_2 t) fullShare ((dats (F := F) m 0 c).before 2 t d))
        ∗ (∃ d, owns (c : Thread nD τ) (Gen.st0_3 t) fullShare ((dats (F := F) m 0 c).before 3 t d))
        ∗ (∃ d, owns (c : Thread nD τ) (Gen.st0_4 t) fullShare ((dats (F := F) m 0 c).before 4 t d))
        ∗ (∃ d, owns (c : Thread nD τ) (Gen.st0_5 t) fullShare ((dats (F := F) m 0 c).before 5 t d))
        ∗ (∃ d, owns (c : Thread nD τ) (Gen.st0_6 t) fullShare ((dats (F := F) m 0 c).before 6 t d)))
      ⊢ wp frame (wpE (defs₀ (F := F)) 𝒱₀ c none) Set.univ (Gen.bodyAt0 t) fun _ =>
        iprop(Pipeline.ΦA spec0 c ∗ (dats (F := F) m 0 c).owesAt () t.succ
          ∗ owns (c : Thread nD τ) (Gen.st0_0 t) fullShare ((dats (F := F) m 0 c).after 0 t)
          ∗ owns (c : Thread nD τ) (Gen.st0_1 t) fullShare ((dats (F := F) m 0 c).after 1 t)
          ∗ owns (c : Thread nD τ) (Gen.st0_2 t) fullShare ((dats (F := F) m 0 c).after 2 t)
          ∗ owns (c : Thread nD τ) (Gen.st0_3 t) fullShare ((dats (F := F) m 0 c).after 3 t)
          ∗ owns (c : Thread nD τ) (Gen.st0_4 t) fullShare ((dats (F := F) m 0 c).after 4 t)
          ∗ (∃ d, owns (c : Thread nD τ) (Gen.st0_5 t) fullShare (win0_5.fill (grid0.coords t) d (win0_5.cut (grid0.coords t) ((dats (F := F) m 0 c).after 5 t))))
          ∗ owns (c : Thread nD τ) (Gen.st0_6 t) fullShare ((dats (F := F) m 0 c).after 6 t)) := by
  unfold Pipeline.ΦA
  rw [Gen.scopedRest0_eq]
  iintro ⟨⟨⟨%f, HS⟩, HP⟩, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (sound_body (F := F) c (grid0.coords t) _ _ _ _ _ _ _ _ _ _ _ _ _ _ (Memref.whole cc0_scratch0) _
    (Gen.iblk m c 0 t) (Gen.iblk m c 1 t) (Gen.iblk m c 2 t) (Gen.iblk m c 3 t) (Gen.iblk m c 4 t)
    (win0_5.fill (grid0.coords t) d5 (Gen.iblk m c 5 t)) ((dats (F := F) m 0 c).before 6 t d6) f _)
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    rw [owns_whole_eq]
    iexists f
    isplitr
    · ipureintro; rfl
    iexact HS
  iintro ⟨H0, H1, H2, H3, H4, H5, H6, H8⟩
  isplitl [H8 HP]
  · isplitl [H8]
    · iapply (scratch_any c _)
      iexact H8
    iexact HP
  isplitl [Ho]; · iexact Ho
  isplitl [H0]; · iexact H0
  isplitl [H1]; · iexact H1
  isplitl [H2]; · iexact H2
  isplitl [H3]; · iexact H3
  isplitl [H4]; · iexact H4
  isplitl [H5]
  · iexists d5
    rw [show win0_5.cut (grid0.coords t) ((dats (F := F) m 0 c).after 5 t) = Gen.iblk m c 5 t from cut_after_5 m c t]
    iexact H5
  have e : outAll (F := F) (Gen.iblk m c 0 t) (tileW (grid0.coords t 0) (Gen.iblk m c 1 t) (Gen.iblk m c 2 t) (Gen.iblk m c 3 t) (Gen.iblk m c 4 t)
      (win0_5.fill (grid0.coords t) d5 (Gen.iblk m c 5 t))) = outT m c t :=
    congrArg (outAll (F := F) (Gen.iblk m c 0 t)) (tile_fill m c t (grid0.coords t 0) _ _ _ _ d5)
  rw [show (dats (F := F) m 0 c).after 6 t = outT m c t from rfl, ← e]
  iexact H6

theorem body_obligation (c : Dev nD) : BodyObligationLoose (dats (F := F) m 0 c) (defs₀ (F := F)) 𝒱₀ () Set.univ := fun t => by
  rw [Gen.bigSep_W0, Gen.bigSep_W0, defs₀_row]
  exact triple_restated (body_triple m c t) rfl .rfl fun _ => .rfl

set_option backward.isDefEq.respectTransparency.types false in
/-- Every execution ends, with the result's array overwritten block by block and every counter at zero. -/
theorem run_main : θ_run (defs (F := F)) (onTc (τ := τ) (main (F := F))) (s₀ m ρ)
    (fun r => Pipeline.FramePost cfgs (dats m) 0 (Gen.V m) r ∧ r.2.sem = fun _ => 0) :=
  Pipeline.θ_run_frame_shared cfgs (dats m) 0 Gen.launch₀0 defs₀ 𝒱₀ m ρ main
    (fun c => body_obligation m c) (fun _ _ _ => rfl) (fun _ _ => rfl) (Gen.V m) (Gen.hmain m 𝒱₀) (fun _ _ => rfl) (fun _ _ => rfl)
    _ (fun _ h => h)

end Cert.KernelIdeal.Rolled

end
-- ==== Proof.Same.lean ====
module

public import proofs.«01_k».proof.Defs
public import proofs.«01_k».proof.Proof.Gen.Kernel
public import proofs.«01_k».proof.Proof.Gen.KernelIdeal
public import Idealize.ShloMosaic.Lib.Tactic

@[expose] public section

noncomputable section

namespace Cert.Proof

open Idealize.ShloMosaic Idealize.SL Idealize.SL.Sem

variable {F : FTy → Type} [FloatOps F]

theorem defs_same : Cert.Kernel.defs (F := F) = Cert.KernelIdeal.defs (F := F) := by sl_kernel_rfl

theorem main_same : Cert.Kernel.main (F := F) = Cert.KernelIdeal.main (F := F) := by sl_kernel_rfl

end Cert.Proof

end
-- ==== Proof.Frames.lean ====
module

public import proofs.«01_k».proof.Proof.Run
public import proofs.«01_k».proof.Proof.Same
public import proofs.«01_k».proof.Proof.Gen.ReferenceIdeal.Run
public import Idealize.ShloMosaic.Lib.Pipeline.ValueKit.Geometry

@[expose] public section

noncomputable section

/-! # The frames, and the array the kernel leaves -/

namespace Cert.KernelIdeal.Rolled

open Cert.KernelIdeal Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- The result: column `C` is column `C % 256` of the block of point `C / 256`. -/
def result (c : Dev nD) : S3072x11008.Idx → Elt F .bf16 := fun y =>
  outT m c (⟨(y 1).val / 256, by have : (y 1).val < 11008 := (y 1).isLt; rw [Gen.N_0]; omega⟩ : Fin grid0.N)
    (ix2 (y 0 : Fin 3072) (⟨(y 1).val % 256, by omega⟩ : Fin 256))

theorem index_6 : ∀ t : Fin grid0.N, win0_6.index t 0 = 0 ∧ win0_6.index t 1 = t.val := by decide +kernel

theorem final (c : Dev nD) : (dats m 0 c).arrAt 6 cfg0.N = result m c := by
  refine (dats m 0 c).arrAt_eq_of_covers 6 _ (by decide +kernel) fun t hf y => ?_
  show outT m c t y = result m c (((cfg0.win 6).blk t).view.emb y)
  have hy : (y 1).val < 256 := (y 1).isLt
  have e : ∀ a, ((((cfg0.win 6).blk t).view.emb y) a).val = win0_6.index t a * win0_6.size a + 1 * (y a).val := fun _ => rfl
  have e0 : ((((cfg0.win 6).blk t).view.emb y) 0).val = (y 0).val := (e 0).trans (by rw [(index_6 t).1]; omega)
  have e1 : ((((cfg0.win 6).blk t).view.emb y) 1).val = 256 * t.val + (y 1).val := (e 1).trans (by
    rw [(index_6 t).2]; show t.val * 256 + 1 * (y 1).val = _; omega)
  unfold result
  generalize ((cfg0.win 6).blk t).view.emb y = z at e0 e1
  have et : (⟨(z 1).val / 256, by have : (z 1).val < 11008 := (z 1).isLt; rw [Gen.N_0]; omega⟩ : Fin grid0.N) = t := Fin.ext (by show (z 1).val / 256 = t.val; omega)
  rw [et]
  refine congrArg (outT m c t) (funext fun a => Fin.ext ?_)
  match a with
  | ⟨0, _⟩ => exact e0.symm
  | ⟨1, _⟩ => show (y 1).val = (z 1).val % 256; omega

/-- Every execution ends, with the arguments unchanged, every counter at zero and the result as computed. -/
theorem run_full : θ_run (defs (F := F)) (onTc (τ := τ) (main (F := F))) ⟨m, fun _ => 0, ρ⟩ (fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 6).trans (final m c),
      ((h.1 c).2 main_arg0 (Pipeline.mem_restRefs_of main_arg0 (by decide) (by decide))).trans (Gen.V_main_arg0 m c),
      ((h.1 c).1 2).trans (((dats m 0 c).arrAt_in 2 rfl _).trans (Gen.V_main_arg1 m c)),
      ((h.1 c).1 4).trans (((dats m 0 c).arrAt_in 4 rfl _).trans (Gen.V_main_arg2 m c)),
      ((h.1 c).1 5).trans (((dats m 0 c).arrAt_in 5 rfl _).trans (Gen.V_main_arg3 m c))⟩, h.2⟩) (run_main m ρ)

end Cert.KernelIdeal.Rolled

namespace Cert.Proof

open Idealize.ShloMosaic Idealize.SL Idealize.SL.Sem

theorem frame_ideal : Cert.quiescent_KernelIdeal := fun m ρ _ =>
  (θ_run _ _ _).mono (fun _ h => ⟨fun c => (h.1 c).2, h.2⟩) (Cert.KernelIdeal.Rolled.run_full (F := Ideal) m ρ)

/-- The kernel is the same text as its ideal program: its run is that one's, with floats as bit patterns. -/
theorem frame_kernel : Cert.quiescent_Kernel := fun m ρ _ => by
  rw [defs_same, main_same]
  exact (θ_run _ _ _).mono (fun _ h => ⟨fun c => (h.1 c).2, h.2⟩) (Cert.KernelIdeal.Rolled.run_full (F := Bits) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof

end
-- ==== Proof.Spec.lean ====
module

public import proofs.«01_k».proof.Proof.Values
public import Idealize.ShloMosaic.Lib.ValueIdxCore
public import Idealize.ShloMosaic.PureOps.Ideal.Laws
public import Mathlib.Tactic.Ring
public import Mathlib.Tactic.NormNum

@[expose] public section

noncomputable section

/-! # The function both programs compute

Over the extended reals: a gate and an up projection of each token by weights unpacked from 4-bit codes, and the gate's
activation times the up projection. -/

namespace Cert.Spec

open Idealize.ShloMosaic Cert.KernelIdeal.Rolled

/-- The weight in row `K`, column `N`: its code less its group's zero point, times its group's scale. Row `K` is field
    `K % 8` of packed row `K / 8`; its group is `K / 128`; the zero point of column `N` is field `N % 8` of word `N / 8`. -/
def weightAt (Q : (⟨2, ![512, 22016]⟩ : Shape).Idx → BitVec 32) (S : (⟨2, ![32, 22016]⟩ : Shape).Idx → EReal)
    (Z : (⟨2, ![32, 2752]⟩ : Shape).Idx → BitVec 32) (K : Fin 4096) (N : Fin 22016) : EReal :=
  ((((field (Q (ix2 (⟨K.val / 8, by omega⟩ : Fin 512) N)) (K.val % 8)).toNat : ℝ) : EReal)
      - (((field (Z (ix2 (⟨K.val / 128, by omega⟩ : Fin 32) (⟨N.val / 8, by omega⟩ : Fin 2752))) (N.val % 8)).toNat : ℝ) : EReal))
    * S (ix2 (⟨K.val / 128, by omega⟩ : Fin 32) N)

/-- The projection of token `r` on column `N`. -/
def proj (X : (⟨3, ![3072, 1, 4096]⟩ : Shape).Idx → EReal) (Q : (⟨2, ![512, 22016]⟩ : Shape).Idx → BitVec 32)
    (S : (⟨2, ![32, 22016]⟩ : Shape).Idx → EReal) (Z : (⟨2, ![32, 2752]⟩ : Shape).Idx → BitVec 32) (r : Fin 3072) (N : Fin 22016) : EReal :=
  ∑ K : Fin 4096, X (ix3 r (0 : Fin 1) K) * weightAt Q S Z K N

/-- Column `N` of the gate's half, and of the up projection's. -/
def gateCol (N : Fin 11008) : Fin 22016 := ⟨N.val, by omega⟩
def upCol (N : Fin 11008) : Fin 22016 := ⟨11008 + N.val, by omega⟩

/-- The result at token `r`, column `N`. -/
def resultAt (X : (⟨3, ![3072, 1, 4096]⟩ : Shape).Idx → EReal) (Q : (⟨2, ![512, 22016]⟩ : Shape).Idx → BitVec 32)
    (S : (⟨2, ![32, 22016]⟩ : Shape).Idx → EReal) (Z : (⟨2, ![32, 2752]⟩ : Shape).Idx → BitVec 32) (r : Fin 3072) (N : Fin 11008) : EReal :=
  proj X Q S Z r (gateCol N) * Ideal.logistic (proj X Q S Z r (gateCol N)) * proj X Q S Z r (upCol N)

/-- A sum over the rows is the sum, over the eight fields, of the sums over the packed rows. -/
theorem sum_fields (f : Fin 4096 → EReal) :
    ∑ K, f K = ∑ j : Fin 8, ∑ p : Fin 512, f ⟨8 * p.val + j.val, by omega⟩ := by
  rw [← Equiv.sum_comp (finProdFinEquiv : Fin 512 × Fin 8 ≃ Fin 4096) f, Fintype.sum_prod_type, Finset.sum_comm]
  refine Finset.sum_congr rfl fun j _ => Finset.sum_congr rfl fun p _ => congrArg f (Fin.ext ?_)
  show j.val + 8 * p.val = 8 * p.val + j.val
  omega

theorem dec_bits : ∀ k : Fin 16,
    ((17152#16 ||| (BitVec.ofNat 32 k.val).setWidth 16).extractLsb' (8 + 7) 1 == 1#1) = false
    ∧ ((17152#16 ||| (BitVec.ofNat 32 k.val).setWidth 16).extractLsb' 7 8).toNat = 134
    ∧ ((17152#16 ||| (BitVec.ofNat 32 k.val).setWidth 16).extractLsb' 0 7).toNat = k.val := by decide

/-- A code below 16 read off the mantissa of 128 is 128 plus the code. -/
theorem dec_code (k : Fin 16) : dec (F := Ideal) (BitVec.ofNat 32 k.val) = ((128 + k.val : ℝ) : EReal) := by
  obtain ⟨h1, h2, h3⟩ := dec_bits k
  show Ideal.ieee 8 7 (17152#16 ||| (BitVec.ofNat 32 k.val).setWidth 16) = _
  unfold Ideal.ieee
  simp only [h1, h2, h3]
  norm_num

/-- The difference of two codes so read is the difference of the codes. -/
theorem dec_sub_dec (x z : BitVec 32) (n n' : Nat) :
    FloatOps.subf (dec (F := Ideal) (field x n)) (dec (field z n'))
      = (((field x n).toNat : ℝ) : EReal) - (((field z n').toNat : ℝ) : EReal) := by
  obtain ⟨a, ha⟩ := field_ofNat x n
  obtain ⟨b, hb⟩ := field_ofNat z n'
  have na : ∀ k : Fin 16, (BitVec.ofNat 32 k.val).toNat = k.val := by decide
  rw [ha, hb, dec_code, dec_code, na, na, Ideal.subf_def, ← EReal.coe_sub, ← EReal.coe_sub]
  congr 1
  ring

/-- One over one plus the exponential of the opposite is the logistic function. -/
theorem sigmoid_eq (g : EReal) : Ideal.div 1 (1 + Ideal.exp (-g)) = Ideal.logistic g := rfl

/-- The host's arithmetic shift and mask read a field. -/
theorem field_shrsi (x : BitVec 32) : ∀ j : Fin 8, IntOp.shrsi .host x (BitVec.ofNat 32 (4 * j.val)) &&& 15#32 = field x j.val := fun j => by
  have hj : (BitVec.ofNat 32 (4 * j.val)).toNat = 4 * j.val := by
    rw [BitVec.toNat_ofNat]; omega
  unfold IntOp.shrsi field
  rw [if_pos (by rw [hj]; omega)]
  ext i hi
  simp only [BitVec.sshiftRight', hj, BitVec.getElem_and, BitVec.getElem_sshiftRight, BitVec.getElem_ushiftRight]
  by_cases h4 : i < 4
  · rw [dif_pos (by omega), BitVec.getLsbD_eq_getElem (by omega)]
  · have : (15#32)[i] = false := by
      rw [← BitVec.getLsbD_eq_getElem]
      have h15 : ∀ i : Fin 32, ¬ i.val < 4 → (15#32).getLsbD i.val = false := by decide
      exact h15 ⟨i, hi⟩ h4
    rw [this, Bool.and_false, Bool.and_false]

/-- A field, converted, is its value. -/
theorem field_sitofp (x : BitVec 32) (n : Nat) : FloatOps.sitofp (F := Ideal) .bf16 (field x n) = (((field x n).toNat : ℝ) : EReal) := by
  have h := field_lt x n
  show (((field x n).toInt : ℝ) : EReal) = _
  rw [BitVec.toInt_eq_toNat_of_lt (by omega)]
  norm_num

end Cert.Spec

end
-- ==== Proof.KernelValue.lean ====
module

public import proofs.«01_k».proof.Proof.Frames
public import proofs.«01_k».proof.Proof.Spec
public import Idealize.ShloMosaic.Lib.MatmulPlain

@[expose] public section

noncomputable section

/-! # What the kernel computes, over the extended reals -/

namespace Cert.KernelIdeal.Rolled

open Cert.KernelIdeal Idealize.ShloMosaic Idealize.ShloMosaic.TcCoe
open Idealize.SL Idealize.SL.Sem Cert.Spec
open Facts K0.Facts₀ Shapes1.Facts₀ Shapes2.Facts₀ Shapes3.Facts₀

/-! ## One block -/

/-- A row block's product with the tile's weights. -/
theorem outProd_apply (x : FVec Ideal S512x4096 .bf16) (W : S4096x512.Idx → Elt Ideal .bf16) (r : Fin 512) (C : Fin 512) :
    outProd (F := Ideal) x W (ix2 r C) = ∑ K : Fin 4096, x (ix2 r K) * W (ix2 K C) := by
  refine (Ideal.matmul_plain_apply none x W (constant (⟨2, ![512, 512]⟩ : Shape) .f32 0x00000000#32) r C).trans ?_
  show Ideal.ofBits .f32 0x00000000#32 + _ = _
  rw [Ideal.ofBits_zero_f32, zero_add]
  rfl

/-- The activation of a product: its gate half times its logistic, times its up half. -/
theorem gated_apply (p : FVec Ideal S512x512 .f32) (r : Fin 512) (C : Fin 256) :
    gated (F := Ideal) p (ix2 r C) = p (ix2 r (halfCol 0 C)) * Ideal.logistic (p (ix2 r (halfCol 0 C))) * p (ix2 r (halfCol 1 C)) := by
  have hg : extractStridedSlice S512x256 ![0, 0] p slices_S512x512_o0_0_S512x256 (ix2 r C) = p (ix2 r (halfCol 0 C)) :=
    extractStridedSlice_apply _ _ _ _ _ (fun a => by
      match a with
      | ⟨0, _⟩ => show r.val = 0 + r.val; omega
      | ⟨1, _⟩ => show 0 * 256 + C.val = 0 + C.val; omega)
  have hu : extractStridedSlice S512x256 ![0, 256] p slices_S512x512_o0_256_S512x256 (ix2 r C) = p (ix2 r (halfCol 1 C)) :=
    extractStridedSlice_apply _ _ _ _ _ (fun a => by
      match a with
      | ⟨0, _⟩ => show r.val = 0 + r.val; omega
      | ⟨1, _⟩ => show 1 * 256 + C.val = 256 + C.val; omega)
  show extractStridedSlice S512x256 ![0, 0] p slices_S512x512_o0_0_S512x256 (ix2 r C)
      * Ideal.logistic (extractStridedSlice S512x256 ![0, 0] p slices_S512x512_o0_0_S512x256 (ix2 r C))
      * extractStridedSlice S512x256 ![0, 256] p slices_S512x512_o0_256_S512x256 (ix2 r C) = _
  rw [hg, hu]

/-- The tile's result at token `r`, column `C`. -/
theorem outAll_apply (X : FVec Ideal S3072x4096 .bf16) (W : S4096x512.Idx → Elt Ideal .bf16) (r : Fin 3072) (C : Fin 256) (g u : EReal)
    (hg : ∑ K : Fin 4096, X (ix2 r K) * W (ix2 K (halfCol 0 C)) = g)
    (hu : ∑ K : Fin 4096, X (ix2 r K) * W (ix2 K (halfCol 1 C)) = u) :
    outAll (F := Ideal) X W (ix2 r C) = g * Ideal.logistic g * u := by
  have hp : ∀ h : Fin 2, outProd (F := Ideal) (xBlock X (⟨r.val / 512, by omega⟩ : Fin 6)) W (ix2 (⟨r.val % 512, by omega⟩ : Fin 512) (halfCol h C))
      = ∑ K : Fin 4096, X (ix2 r K) * W (ix2 K (halfCol h C)) := fun h => by
    rw [outProd_apply]
    refine Finset.sum_congr rfl fun K _ => congrArg (· * W (ix2 K (halfCol h C))) ?_
    show X (ix2 _ _) = X (ix2 r K)
    refine congrArg X (funext fun a => Fin.ext ?_)
    match a with
    | ⟨0, _⟩ => show 512 * (r.val / 512) + r.val % 512 = r.val; omega
    | ⟨1, _⟩ => rfl
  show gated (F := Ideal) (outProd (xBlock X (⟨r.val / 512, by omega⟩ : Fin 6)) W) (ix2 (⟨r.val % 512, by omega⟩ : Fin 512) C) = _
  rw [gated_apply, hp 0, hp 1, hg, hu]

/-! ## The blocks, read off the arrays -/

section Blocks

variable {F : FTy → Type} [FloatOps F]
variable (m : (ℓ : Loc nD τ sig) → Buf (Elt F) ℓ) (c : Dev nD)

/-- The host's reshape before the kernel drops the unit axis. -/
theorem tokens_apply (r : Fin 3072) (K : Fin 4096) :
    Gen.V m c main_v0 (ix2 r K) = m ((c : Thread nD τ).loc main_arg0) (ix3 r (0 : Fin 1) K) := by
  show shapeCast S3072x4096 (m ((c : Thread nD τ).loc main_arg0)) _ (ix2 r K) = _
  refine shapeCast_apply _ _ _ _ ?_
  refine (Shape.rowMajor_val_three (d := ![3072, 1, 4096]) (ix3 r (0 : Fin 1) K)).trans (Eq.trans ?_ (Shape.rowMajor_val_two (d := ![3072, 4096]) (ix2 r K)).symm)
  show (r.val * 1 + 0) * 4096 + K.val = r.val * 4096 + K.val
  omega

theorem index_w : ∀ t : Fin grid0.N, (win0_0.index t 0 = 0 ∧ win0_0.index t 1 = 0) ∧ (win0_1.index t 0 = 0 ∧ win0_1.index t 1 = t.val)
    ∧ (win0_2.index t 0 = 0 ∧ win0_2.index t 1 = t.val + 43) ∧ (win0_3.index t 0 = 0 ∧ win0_3.index t 1 = t.val)
    ∧ (win0_4.index t 0 = 0 ∧ win0_4.index t 1 = t.val + 43) ∧ (win0_5.index t 0 = 0 ∧ win0_5.index t 1 = 0)
    ∧ ((grid0.coords t) 0).val = t.val := by decide +kernel

theorem blk_0 (t : Fin grid0.N) (r : Fin 3072) (K : Fin 4096) : Gen.iblk m c 0 t (ix2 r K) = m ((c : Thread nD τ).loc main_arg0) (ix3 r (0 : Fin 1) K) := by
  refine Eq.trans ?_ (tokens_apply m c r K)
  show Gen.V m c main_v0 (((cfg0.win 0).blk t).view.emb (ix2 r K)) = _
  refine congrArg (Gen.V m c main_v0) (funext fun a => Fin.ext ?_)
  match a with
  | ⟨0, _⟩ => show win0_0.index t 0 * 3072 + 1 * r.val = r.val; rw [(index_w t).1.1]; omega
  | ⟨1, _⟩ => show win0_0.index t 1 * 4096 + 1 * K.val = K.val; rw [(index_w t).1.2]; omega

theorem blk_1 (t : Fin grid0.N) (p : Fin 512) (C : Fin 256) (N : Fin 22016) (hN : N.val = 256 * t.val + C.val) :
    Gen.iblk m c 1 t (ix2 p C) = m ((c : Thread nD τ).loc main_arg1) (ix2 p N) := by
  show Gen.V m c main_arg1 (((cfg0.win 1).blk t).view.emb (ix2 p C)) = _
  rw [Gen.V_main_arg1]
  refine congrArg (m ((c : Thread nD τ).loc main_arg1)) (funext fun a => Fin.ext ?_)
  match a with
  | ⟨0, _⟩ => show win0_1.index t 0 * 512 + 1 * p.val = p.val; rw [(index_w t).2.1.1]; omega
  | ⟨1, _⟩ => show win0_1.index t 1 * 256 + 1 * C.val = N.val; rw [(index_w t).2.1.2]; omega

theorem blk_2 (t : Fin grid0.N) (p : Fin 512) (C : Fin 256) (N : Fin 22016) (hN : N.val = 11008 + 256 * t.val + C.val) :
    Gen.iblk m c 2 t (ix2 p C) = m ((c : Thread nD τ).loc main_arg1) (ix2 p N) := by
  show Gen.V m c main_arg1 (((cfg0.win 2).blk t).view.emb (ix2 p C)) = _
  rw [Gen.V_main_arg1]
  refine congrArg (m ((c : Thread nD τ).loc main_arg1)) (funext fun a => Fin.ext ?_)
  match a with
  | ⟨0, _⟩ => show win0_2.index t 0 * 512 + 1 * p.val = p.val; rw [(index_w t).2.2.1.1]; omega
  | ⟨1, _⟩ => show win0_2.index t 1 * 256 + 1 * C.val = N.val; rw [(index_w t).2.2.1.2]; omega

theorem blk_3 (t : Fin grid0.N) (g : Fin 32) (C : Fin 256) (N : Fin 22016) (hN : N.val = 256 * t.val + C.val) :
    Gen.iblk m c 3 t (ix2 g C) = m ((c : Thread nD τ).loc main_arg2) (ix2 g N) := by
  show Gen.V m c main_arg2 (((cfg0.win 3).blk t).view.emb (ix2 g C)) = _
  rw [Gen.V_main_arg2]
  refine congrArg (m ((c : Thread nD τ).loc main_arg2)) (funext fun a => Fin.ext ?_)
  match a with
  | ⟨0, _⟩ => show win0_3.index t 0 * 32 + 1 * g.val = g.val; rw [(index_w t).2.2.2.1.1]; omega
  | ⟨1, _⟩ => show win0_3.index t 1 * 256 + 1 * C.val = N.val; rw [(index_w t).2.2.2.1.2]; omega

theorem blk_4 (t : Fin grid0.N) (g : Fin 32) (C : Fin 256) (N : Fin 22016) (hN : N.val = 11008 + 256 * t.val + C.val) :
    Gen.iblk m c 4 t (ix2 g C) = m ((c : Thread nD τ).loc main_arg2) (ix2 g N) := by
  show Gen.V m c main_arg2 (((cfg0.win 4).blk t).view.emb (ix2 g C)) = _
  rw [Gen.V_main_arg2]
  refine congrArg (m ((c : Thread nD τ).loc main_arg2)) (funext fun a => Fin.ext ?_)
  match a with
  | ⟨0, _⟩ => show win0_4.index t 0 * 32 + 1 * g.val = g.val; rw [(index_w t).2.2.2.2.1.1]; omega
  | ⟨1, _⟩ => show win0_4.index t 1 * 256 + 1 * C.val = N.val; rw [(index_w t).2.2.2.2.1.2]; omega

/-- The zero point words staged, in the array's own columns. -/
theorem zeros_apply (t : Fin grid0.N) (j : S32x2816.Idx) (g : Fin 32) (n : Fin 2752) (hg : (j 0).val = g.val) (hn : (j 1).val = n.val) :
    zeros m c t j = m ((c : Thread nD τ).loc main_arg3) (ix2 g n) := by
  unfold zeros Pipeline.Window.fill
  rw [dif_pos (moved_5 t j (by omega))]
  show Gen.V m c main_arg3 (((cfg0.win 5).blk t).view.emb _) = _
  rw [Gen.V_main_arg3]
  refine congrArg (m ((c : Thread nD τ).loc main_arg3)) (funext fun a => Fin.ext ?_)
  match a with
  | ⟨0, _⟩ => show win0_5.index t 0 * 32 + 1 * (j 0).val = g.val; rw [(index_w t).2.2.2.2.2.1.1]; omega
  | ⟨1, _⟩ => show win0_5.index t 1 * 2816 + 1 * (j 1).val = n.val; rw [(index_w t).2.2.2.2.2.1.2]; omega

end Blocks

/-! ## The array -/

variable (m : (ℓ : Loc nD τ sig) → Buf (Elt Ideal) ℓ) (c : Dev nD)

/-- The four arguments, as arrays of extended reals and words. -/
abbrev argX : (⟨3, ![3072, 1, 4096]⟩ : Shape).Idx → EReal := m ((c : Thread nD τ).loc main_arg0)
abbrev argQ : (⟨2, ![512, 22016]⟩ : Shape).Idx → BitVec 32 := m ((c : Thread nD τ).loc main_arg1)
abbrev argS : (⟨2, ![32, 22016]⟩ : Shape).Idx → EReal := m ((c : Thread nD τ).loc main_arg2)
abbrev argZ : (⟨2, ![32, 2752]⟩ : Shape).Idx → BitVec 32 := m ((c : Thread nD τ).loc main_arg3)

/-- A weight over the extended reals is the code's difference to the zero point, times the scale. -/
theorem halfW_eq (q : S512x256.Idx → Elt Ideal .i32) (s : S32x256.Idx → Elt Ideal .bf16) (zw : Fin 32 → Fin 256 → BitVec 32)
    (K : Fin 4096) (C : Fin 256) (N : Fin 22016)
    (hq : ∀ p : Fin 512, q (ix2 p C) = argQ m c (ix2 p N)) (hs : ∀ g : Fin 32, s (ix2 g C) = argS m c (ix2 g N))
    (hz : ∀ g : Fin 32, zw g C = argZ m c (ix2 g (⟨N.val / 8, by omega⟩ : Fin 2752))) (hC : C.val % 8 = N.val % 8) :
    halfW q s zw K C = weightAt (argQ m c) (argS m c) (argZ m c) K N := by
  unfold halfW weight weightAt
  rw [dec_sub_dec, hq, hs, hz, hC]
  rfl

theorem gate_weight (t : Fin grid0.N) (K : Fin 4096) (C : Fin 256) (N : Fin 22016) (hN : N.val = 256 * t.val + C.val) :
    tileW (grid0.coords t 0) (Gen.iblk m c 1 t) (Gen.iblk m c 2 t) (Gen.iblk m c 3 t) (Gen.iblk m c 4 t) (zeros m c t) (ix2 K (halfCol 0 C))
      = weightAt (argQ m c) (argS m c) (argZ m c) K N := by
  refine (tileW_gate _ _ _ _ _ _ K C).trans (halfW_eq m c _ _ _ K C N (fun p => blk_1 m c t p C N hN) (fun g => blk_3 m c t g C N hN) (fun g => ?_) (by omega))
  exact zeros_apply m c t _ g _ rfl (show 32 * (grid0.coords t 0).val + C.val / 8 = N.val / 8 by rw [(index_w t).2.2.2.2.2.2]; omega)

theorem up_weight (t : Fin grid0.N) (K : Fin 4096) (C : Fin 256) (N : Fin 22016) (hN : N.val = 11008 + 256 * t.val + C.val) :
    tileW (grid0.coords t 0) (Gen.iblk m c 1 t) (Gen.iblk m c 2 t) (Gen.iblk m c 3 t) (Gen.iblk m c 4 t) (zeros m c t) (ix2 K (halfCol 1 C))
      = weightAt (argQ m c) (argS m c) (argZ m c) K N := by
  refine (tileW_up _ _ _ _ _ _ K C).trans (halfW_eq m c _ _ _ K C N (fun p => blk_2 m c t p C N hN) (fun g => blk_4 m c t g C N hN) (fun g => ?_) (by omega))
  exact zeros_apply m c t _ g _ rfl (show 1376 + 32 * (grid0.coords t 0).val + C.val / 8 = N.val / 8 by rw [(index_w t).2.2.2.2.2.2]; omega)

/-- The kernel's result at token `r`, column `N`. -/
theorem result_apply (r : Fin 3072) (N : Fin 11008) :
    result m c (ix2 r N) = resultAt (argX m c) (argQ m c) (argS m c) (argZ m c) r N := by
  show outT m c (⟨N.val / 256, by rw [Gen.N_0]; omega⟩ : Fin grid0.N) (ix2 r (⟨N.val % 256, by omega⟩ : Fin 256)) = _
  unfold outT resultAt
  refine outAll_apply _ _ r _ _ _ ?_ ?_
  · refine Finset.sum_congr rfl fun K _ => ?_
    rw [gate_weight m c (⟨N.val / 256, by rw [Gen.N_0]; omega⟩ : Fin grid0.N) K (⟨N.val % 256, by omega⟩ : Fin 256) (gateCol N) (show N.val = 256 * (N.val / 256) + N.val % 256 by omega), blk_0]
  · refine Finset.sum_congr rfl fun K _ => ?_
    rw [up_weight m c (⟨N.val / 256, by rw [Gen.N_0]; omega⟩ : Fin grid0.N) K (⟨N.val % 256, by omega⟩ : Fin 256) (upCol N) (show 11008 + N.val = 11008 + 256 * (N.val / 256) + N.val % 256 by omega), blk_0]

end Cert.KernelIdeal.Rolled

end
-- ==== Proof.RefParts.lean ====
module

public import proofs.«01_k».proof.Proof.Spec
public import proofs.«01_k».proof.Proof.Gen.ReferenceIdeal.Run
public import Idealize.ShloMosaic.Lib.MatmulPlain

@[expose] public section

noncomputable section

/-! # The reference's pieces, read at an index -/

namespace Cert.ReferenceIdeal.Parts

open Cert.ReferenceIdeal Cert.ReferenceIdeal.Gen Idealize.ShloMosaic Idealize.ShloMosaic.TcCoe Idealize.SL.Sem Idealize.ShloMosaic.StableHlo
open Cert.Spec Cert.KernelIdeal.Rolled

/-- A field of every packed zero point word, with a unit axis appended. -/
def zword (Z : IVec S32x2752 32) (b : BitVec 32) : S32x2752x1.Idx → BitVec 32 :=
  broadcastInDim S32x2752x1 ![0, 1] bcast_S32x2752_S32x2752x1_0_1 (andi (Host.shrsi Z (broadcastInDim S32x2752 ![] bcast_S_S32x2752 (constantI S_ 32 b))) (broadcastInDim S32x2752 ![] bcast_S_S32x2752 (constantI S_ 32 15#32)))

theorem zword_apply (Z : IVec S32x2752 32) (j : Fin 8) (g : Fin 32) (w : Fin 2752) :
    zword Z (BitVec.ofNat 32 (4 * j.val)) (ix3 g w (0 : Fin 1)) = field (Z (ix2 g w)) j.val := by
  refine (broadcastInDim_apply _ _ _ _ (ix2 g w) ?_).trans (field_shrsi (Z (ix2 g w)) j)
  intro a
  match a with
  | ⟨0, _⟩ => rfl
  | ⟨1, _⟩ => rfl

/-- The eight fields of the zero point words, stacked last. -/
def zstack (Z : IVec S32x2752 32) : S32x2752x8.Idx → BitVec 32 :=
  concatenate S32x2752x8 2 (List.ofFn fun n : Fin 8 => (⟨S32x2752x1, zword Z (BitVec.ofNat 32 (4 * n.val))⟩ : (s : Shape) × (s.Idx → BitVec 32)))
    concatenates_S32x2752x1_S32x2752x1_S32x2752x1_S32x2752x1_S32x2752x1_S32x2752x1_S32x2752x1_S32x2752x1_S32x2752x8_d2

theorem zstack_apply (Z : IVec S32x2752 32) (g : Fin 32) (w : Fin 2752) (j : Fin 8) :
    zstack Z (ix3 g w j) = field (Z (ix2 g w)) j.val := by
  refine (concatenate_ofFn_unit_apply (t := S32x2752x8) (s₁ := S32x2752x1) 2 (fun n : Fin 8 => zword Z (BitVec.ofNat 32 (4 * n.val))) _ rfl rfl (ix3 g w j) j rfl
    (ix3 g w (0 : Fin 1)) ?_).trans (zword_apply Z j g w)
  intro b hb
  match b with
  | ⟨0, _⟩ => rfl
  | ⟨1, _⟩ => rfl
  | ⟨2, _⟩ => exact absurd rfl hb

/-- The zero points, one for each group and column. -/
theorem zero_apply (Z : IVec S32x2752 32) (g : Fin 32) (N : Fin 22016) :
    broadcastInDim S32x1x22016 ![0, 2] bcast_S32x22016_S32x1x22016_0_2
        (sitofp (F := Ideal) .bf16 (shapeCast S32x22016 (zstack Z) shapeCasts_S32x2752x8_S32x22016)) (ix3 g (0 : Fin 1) N)
      = (((field (Z (ix2 g (⟨N.val / 8, by omega⟩ : Fin 2752))) (N.val % 8)).toNat : ℝ) : EReal) := by
  refine (broadcastInDim_apply _ _ _ _ (ix2 g N) ?_).trans ?_
  · intro a
    match a with
    | ⟨0, _⟩ => rfl
    | ⟨1, _⟩ => rfl
  have e : shapeCast S32x22016 (zstack Z) shapeCasts_S32x2752x8_S32x22016 (ix2 g N) = field (Z (ix2 g (⟨N.val / 8, by omega⟩ : Fin 2752))) (N.val % 8) := by
    refine (shapeCast_apply _ _ _ (ix3 g (⟨N.val / 8, by omega⟩ : Fin 2752) (⟨N.val % 8, by omega⟩ : Fin 8)) ?_).trans (zstack_apply Z g _ _)
    refine (Shape.rowMajor_val_three (d := ![32, 2752, 8]) (ix3 g (⟨N.val / 8, by omega⟩ : Fin 2752) (⟨N.val % 8, by omega⟩ : Fin 8))).trans
      (Eq.trans ?_ (Shape.rowMajor_val_two (d := ![32, 22016]) (ix2 g N)).symm)
    show (g.val * 2752 + N.val / 8) * 8 + N.val % 8 = g.val * 22016 + N.val
    omega
  show FloatOps.sitofp (F := Ideal) .bf16 (shapeCast S32x22016 (zstack Z) shapeCasts_S32x2752x8_S32x22016 (ix2 g N)) = _
  rw [e, field_sitofp]

/-- The scales, one for each group and column. -/
theorem scale_apply (S : FVec Ideal S32x22016 .bf16) (g : Fin 32) (N : Fin 22016) :
    broadcastInDim S32x1x22016 ![0, 2] bcast_S32x22016_S32x1x22016_0_2 S (ix3 g (0 : Fin 1) N) = S (ix2 g N) :=
  broadcastInDim_apply _ _ _ _ (ix2 g N) fun a => by
    match a with
    | ⟨0, _⟩ => rfl
    | ⟨1, _⟩ => rfl

/-- A per-group row laid over the sixteen packed rows of its group. -/
theorem group_apply (v : FVec Ideal S32x1x22016 .bf16) (g : Fin 32) (a : Fin 16) (N : Fin 22016) :
    broadcastInDim S32x16x22016 ![0, 1, 2] bcast_S32x1x22016_S32x16x22016_0_1_2 v (ix3 g a N) = v (ix3 g (0 : Fin 1) N) :=
  broadcastInDim_apply _ _ _ _ (ix3 g (0 : Fin 1) N) fun b => by
    match b with
    | ⟨0, _⟩ => rfl
    | ⟨1, _⟩ => rfl
    | ⟨2, _⟩ => rfl

/-- The weights of one field. -/
def fieldW (Q : IVec S512x22016 32) (z s : FVec Ideal S32x1x22016 .bf16) (b : BitVec 32) : FVec Ideal S512x22016 .bf16 :=
  shapeCast S512x22016 (mulf (subf (shapeCast S32x16x22016 (sitofp .bf16 (andi (Host.shrsi Q (broadcastInDim S512x22016 ![] bcast_S_S512x22016 (constantI S_ 32 b))) (broadcastInDim S512x22016 ![] bcast_S_S512x22016 (constantI S_ 32 15#32)))) shapeCasts_S512x22016_S32x16x22016)
    (broadcastInDim S32x16x22016 ![0, 1, 2] bcast_S32x1x22016_S32x16x22016_0_1_2 z)) (broadcastInDim S32x16x22016 ![0, 1, 2] bcast_S32x1x22016_S32x16x22016_0_1_2 s)) shapeCasts_S32x16x22016_S512x22016

theorem split_rows (p : Fin 512) (N : Fin 22016) :
    ((⟨3, ![32, 16, 22016]⟩ : Shape).rowMajor (ix3 (⟨p.val / 16, by omega⟩ : Fin 32) (⟨p.val % 16, by omega⟩ : Fin 16) N)).val
      = ((⟨2, ![512, 22016]⟩ : Shape).rowMajor (ix2 p N)).val := by
  rw [Shape.rowMajor_val_three, Shape.rowMajor_val_two]
  show (p.val / 16 * 16 + p.val % 16) * 22016 + N.val = p.val * 22016 + N.val
  omega

theorem fieldW_apply (Q : IVec S512x22016 32) (z s : FVec Ideal S32x1x22016 .bf16) (j : Fin 8) (p : Fin 512) (N : Fin 22016) :
    fieldW Q z s (BitVec.ofNat 32 (4 * j.val)) (ix2 p N)
      = ((((field (Q (ix2 p N)) j.val).toNat : ℝ) : EReal) - z (ix3 (⟨p.val / 16, by omega⟩ : Fin 32) (0 : Fin 1) N)) * s (ix3 (⟨p.val / 16, by omega⟩ : Fin 32) (0 : Fin 1) N) := by
  unfold fieldW
  refine (shapeCast_apply _ _ _ (ix3 (⟨p.val / 16, by omega⟩ : Fin 32) (⟨p.val % 16, by omega⟩ : Fin 16) N) (split_rows p N)).trans ?_
  refine congrArg₂ (· * ·) (congrArg₂ (· - ·) ?_ (group_apply z _ _ N)) (group_apply s _ _ N)
  refine (shapeCast_apply _ _ _ (ix2 p N) (split_rows p N).symm).trans ?_
  refine Eq.trans (congrArg (FloatOps.sitofp (F := Ideal) .bf16) (field_shrsi (Q (ix2 p N)) j)) (field_sitofp _ _)

/-- The tokens' entries of one field. -/
def fieldX (X : FVec Ideal S3072x1x4096 .bf16) (j : Nat) (h : S3072x1x512x8.Slices ![0, 0, 0, j] S3072x1x512x1) : FVec Ideal S3072x1x512 .bf16 :=
  shapeCast S3072x1x512 (extractStridedSlice S3072x1x512x1 ![0, 0, 0, j] (shapeCast S3072x1x512x8 X shapeCasts_S3072x1x4096_S3072x1x512x8) h) shapeCasts_S3072x1x512x1_S3072x1x512

theorem fieldX_apply (X : FVec Ideal S3072x1x4096 .bf16) (j : Fin 8) (h : S3072x1x512x8.Slices ![0, 0, 0, j.val] S3072x1x512x1) (r : Fin 3072) (p : Fin 512) :
    fieldX X j.val h (ix3 r (0 : Fin 1) p) = X (ix3 r (0 : Fin 1) (⟨8 * p.val + j.val, by omega⟩ : Fin 4096)) := by
  unfold fieldX
  refine (shapeCast_apply _ _ _ (ix4 r (0 : Fin 1) p (0 : Fin 1)) ?_).trans ?_
  · refine (Shape.rowMajor_val_four (d := ![3072, 1, 512, 1]) (ix4 r (0 : Fin 1) p (0 : Fin 1))).trans
      (Eq.trans ?_ (Shape.rowMajor_val_three (d := ![3072, 1, 512]) (ix3 r (0 : Fin 1) p)).symm)
    show ((r.val * 1 + 0) * 512 + p.val) * 1 + 0 = (r.val * 1 + 0) * 512 + p.val
    omega
  refine (extractStridedSlice_apply _ _ _ _ (ix4 r (0 : Fin 1) p j) ?_).trans ?_
  · intro a
    match a with
    | ⟨0, _⟩ => show r.val = 0 + r.val; omega
    | ⟨1, _⟩ => rfl
    | ⟨2, _⟩ => show p.val = 0 + p.val; omega
    | ⟨3, _⟩ => show j.val = j.val + 0; omega
  refine shapeCast_apply _ _ _ _ ?_
  refine (Shape.rowMajor_val_three (d := ![3072, 1, 4096]) (ix3 r (0 : Fin 1) (⟨8 * p.val + j.val, by omega⟩ : Fin 4096))).trans
    (Eq.trans ?_ (Shape.rowMajor_val_four (d := ![3072, 1, 512, 8]) (ix4 r (0 : Fin 1) p j)).symm)
  show (r.val * 1 + 0) * 4096 + (8 * p.val + j.val) = ((r.val * 1 + 0) * 512 + p.val) * 8 + j.val
  omega

/-- One field's product, read at token `r`, column `N`. -/
theorem dot_apply (A : FVec Ideal S3072x1x512 .bf16) (B : FVec Ideal S512x22016 .bf16) (r : Fin 3072) (N : Fin 22016) :
    Host.dotGeneral (F := Ideal) dot_S3072x1x512_S512x22016_S3072x1x22016_2_0_01_1_n_n none A B (ix3 r (0 : Fin 1) N)
      = ∑ p : Fin 512, A (ix3 r (0 : Fin 1) p) * B (ix2 p N) := by
  show FloatOps.dotGeneral _ none _ A B (ix3 r (0 : Fin 1) N) = _
  rw [Ideal.dotGeneral_apply, ← Equiv.sum_comp (ValueIdx.contrEquiv1 dot_S3072x1x512_S512x22016_S3072x1x22016_2_0_01_1_n_n 512 rfl rfl).symm]
  refine Finset.sum_congr rfl fun p _ => ?_
  have c := ValueIdx.contrEquiv1_symm_val dot_S3072x1x512_S512x22016_S3072x1x22016_2_0_01_1_n_n 512 rfl rfl p
  refine congrArg₂ (· * ·) (congrArg A (funext fun a => Fin.ext ?_)) (congrArg B (funext fun a => Fin.ext ?_))
  · match a with
    | ⟨0, _⟩ => rfl
    | ⟨1, _⟩ => rfl
    | ⟨2, _⟩ => exact c
  · match a with
    | ⟨0, _⟩ => exact c
    | ⟨1, _⟩ => rfl

end Cert.ReferenceIdeal.Parts

end
-- ==== Proof.RefValue.lean ====
module

public import proofs.«01_k».proof.Proof.RefParts

@[expose] public section

noncomputable section

/-! # What the reference computes, over the extended reals -/

namespace Cert.ReferenceIdeal.Parts

open Cert.ReferenceIdeal Cert.ReferenceIdeal.Gen Cert.ReferenceIdeal.Value Idealize.ShloMosaic Idealize.ShloMosaic.TcCoe Idealize.SL.Sem Idealize.ShloMosaic.StableHlo
open Cert.Spec Cert.KernelIdeal.Rolled

section Sum

variable (X : FVec Ideal S3072x1x4096 .bf16) (Q : IVec S512x22016 32) (S : FVec Ideal S32x22016 .bf16) (Z : IVec S32x2752 32)

/-- The zero points and the scales, laid out by group. -/
def zeroRows : FVec Ideal S32x1x22016 .bf16 :=
  broadcastInDim S32x1x22016 ![0, 2] bcast_S32x22016_S32x1x22016_0_2 (sitofp (F := Ideal) .bf16 (shapeCast S32x22016 (zstack Z) shapeCasts_S32x2752x8_S32x22016))
def scaleRows : FVec Ideal S32x1x22016 .bf16 := broadcastInDim S32x1x22016 ![0, 2] bcast_S32x22016_S32x1x22016_0_2 S

/-- One field's product. -/
def fieldDot (j : Nat) (h : S3072x1x512x8.Slices ![0, 0, 0, j] S3072x1x512x1) (b : BitVec 32) : FVec Ideal S3072x1x22016 .f32 :=
  Host.dotGeneral (F := Ideal) dot_S3072x1x512_S512x22016_S3072x1x22016_2_0_01_1_n_n none (fieldX X j h) (fieldW Q (zeroRows Z) (scaleRows S) b)

/-- It is that field's share of the projection. -/
theorem fieldDot_apply (j : Fin 8) (h : S3072x1x512x8.Slices ![0, 0, 0, j.val] S3072x1x512x1) (r : Fin 3072) (N : Fin 22016) :
    fieldDot X Q S Z j.val h (BitVec.ofNat 32 (4 * j.val)) (ix3 r (0 : Fin 1) N)
      = ∑ p : Fin 512, X (ix3 r (0 : Fin 1) (⟨8 * p.val + j.val, by omega⟩ : Fin 4096)) * weightAt Q S Z (⟨8 * p.val + j.val, by omega⟩ : Fin 4096) N := by
  refine (dot_apply _ _ r N).trans (Finset.sum_congr rfl fun p _ => ?_)
  refine congrArg₂ (· * ·) (fieldX_apply X j h r p) ((fieldW_apply Q _ _ j p N).trans ?_)
  have e1 : (⟨(8 * p.val + j.val) / 8, by omega⟩ : Fin 512) = p := Fin.ext (by show (8 * p.val + j.val) / 8 = p.val; omega)
  have e2 : (⟨(8 * p.val + j.val) / 128, by omega⟩ : Fin 32) = ⟨p.val / 16, by omega⟩ := Fin.ext (by show (8 * p.val + j.val) / 128 = p.val / 16; omega)
  have e3 : (8 * p.val + j.val) % 8 = j.val := by omega
  show _ = ((((field (Q (ix2 (⟨(8 * p.val + j.val) / 8, by omega⟩ : Fin 512) N)) ((8 * p.val + j.val) % 8)).toNat : ℝ) : EReal)
      - (((field (Z (ix2 (⟨(8 * p.val + j.val) / 128, by omega⟩ : Fin 32) (⟨N.val / 8, by omega⟩ : Fin 2752))) (N.val % 8)).toNat : ℝ) : EReal))
    * S (ix2 (⟨(8 * p.val + j.val) / 128, by omega⟩ : Fin 32) N)
  rw [e1, e2, e3]
  exact congrArg₂ (· * ·) (congrArg (_ - ·) (zero_apply Z _ N)) (scale_apply S _ N)

/-- The eight fields' products, added up. -/
def acc : FVec Ideal S3072x1x22016 .f32 :=
  addf (addf (addf (addf (addf (addf (addf
    (fieldDot X Q S Z 0 slices_S3072x1x512x8_S3072x1x512x1_0_0_0_0 0#32)
    (fieldDot X Q S Z 1 slices_S3072x1x512x8_S3072x1x512x1_0_0_0_1 4#32))
    (fieldDot X Q S Z 2 slices_S3072x1x512x8_S3072x1x512x1_0_0_0_2 8#32))
    (fieldDot X Q S Z 3 slices_S3072x1x512x8_S3072x1x512x1_0_0_0_3 12#32))
    (fieldDot X Q S Z 4 slices_S3072x1x512x8_S3072x1x512x1_0_0_0_4 16#32))
    (fieldDot X Q S Z 5 slices_S3072x1x512x8_S3072x1x512x1_0_0_0_5 20#32))
    (fieldDot X Q S Z 6 slices_S3072x1x512x8_S3072x1x512x1_0_0_0_6 24#32))
    (fieldDot X Q S Z 7 slices_S3072x1x512x8_S3072x1x512x1_0_0_0_7 28#32)

/-- They are the projection. -/
theorem acc_apply (r : Fin 3072) (N : Fin 22016) : acc X Q S Z (ix3 r (0 : Fin 1) N) = proj X Q S Z r N := by
  unfold proj
  rw [sum_fields, Fin.sum_univ_eight]
  have e := fun (j : Fin 8) (h) => fieldDot_apply X Q S Z j h r N
  rw [← e 0 slices_S3072x1x512x8_S3072x1x512x1_0_0_0_0, ← e 1 slices_S3072x1x512x8_S3072x1x512x1_0_0_0_1, ← e 2 slices_S3072x1x512x8_S3072x1x512x1_0_0_0_2,
    ← e 3 slices_S3072x1x512x8_S3072x1x512x1_0_0_0_3, ← e 4 slices_S3072x1x512x8_S3072x1x512x1_0_0_0_4, ← e 5 slices_S3072x1x512x8_S3072x1x512x1_0_0_0_5,
    ← e 6 slices_S3072x1x512x8_S3072x1x512x1_0_0_0_6, ← e 7 slices_S3072x1x512x8_S3072x1x512x1_0_0_0_7]
  rfl

end Sum

/-! ## The run -/

variable (m : (ℓ : Loc nD τ sig) → Buf (Elt Ideal) ℓ) (c : Dev nD)

/-- The four arguments, as arrays of extended reals and words. -/
abbrev argX : (⟨3, ![3072, 1, 4096]⟩ : Shape).Idx → EReal := m ((c : Thread nD τ).loc main_arg0)
abbrev argQ : (⟨2, ![512, 22016]⟩ : Shape).Idx → BitVec 32 := m ((c : Thread nD τ).loc main_arg1)
abbrev argS : (⟨2, ![32, 22016]⟩ : Shape).Idx → EReal := m ((c : Thread nD τ).loc main_arg2)
abbrev argZ : (⟨2, ![32, 2752]⟩ : Shape).Idx → BitVec 32 := m ((c : Thread nD τ).loc main_arg3)

theorem v43_eq : res_main_v43 (F := Ideal) (launchContents m c) = zeroRows (argZ m c) := rfl
theorem v44_eq : res_main_v44 (F := Ideal) (launchContents m c) = scaleRows (argS m c) := rfl

/-- The reference's accumulated product. -/
theorem v164_eq : res_main_v164 (F := Ideal) (launchContents m c) = acc (argX m c) (argQ m c) (argS m c) (argZ m c) := by
  unfold res_main_v164 res_main_v134
  rw [v43_eq, v44_eq]
  rfl

theorem one_eq : Ideal.ofBits .f32 0x3F800000#32 = 1 := by
  simp [Ideal.ofBits, Ideal.ieee]
  rw [← EReal.coe_mul]
  norm_num

theorem gate_apply (r : Fin 3072) (N : Fin 11008) :
    res_main_v165 (F := Ideal) (launchContents m c) (ix3 r (0 : Fin 1) N) = proj (argX m c) (argQ m c) (argS m c) (argZ m c) r (gateCol N) := by
  unfold res_main_v165
  rw [v164_eq]
  refine (extractStridedSlice_apply _ _ _ _ (ix3 r (0 : Fin 1) (gateCol N)) ?_).trans (acc_apply _ _ _ _ r _)
  intro a
  match a with
  | ⟨0, _⟩ => show r.val = 0 + r.val; omega
  | ⟨1, _⟩ => rfl
  | ⟨2, _⟩ => show N.val = 0 + N.val; omega

theorem up_apply (r : Fin 3072) (N : Fin 11008) :
    extractStridedSlice S3072x1x11008 ![0, 0, 11008] (res_main_v164 (F := Ideal) (launchContents m c)) slices_S3072x1x22016_S3072x1x11008_0_0_11008 (ix3 r (0 : Fin 1) N)
      = proj (argX m c) (argQ m c) (argS m c) (argZ m c) r (upCol N) := by
  rw [v164_eq]
  refine (extractStridedSlice_apply _ _ _ _ (ix3 r (0 : Fin 1) (upCol N)) ?_).trans (acc_apply _ _ _ _ r _)
  intro a
  match a with
  | ⟨0, _⟩ => show r.val = 0 + r.val; omega
  | ⟨1, _⟩ => rfl
  | ⟨2, _⟩ => rfl

/-- Every execution of the reference ends, with the result at each token and column, and the arguments unchanged. -/
theorem run_value (ρ : Dev nD → PrngReg) : θ_run (defs (F := Ideal)) (onTc (τ := τ) (main (F := Ideal))) ⟨m, fun _ => 0, ρ⟩ fun r => ∀ c : Dev nD,
      (∀ (i : Fin 3072) (N : Fin 11008), r.2.mem ((c.tc : Thread nD τ).loc main_v176) (ix2 i N) = resultAt (argX m c) (argQ m c) (argS m c) (argZ m c) i N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i N => ?_, (h c).2⟩) (Cert.ReferenceIdeal.Value.run (F := Ideal) m ρ)
  rw [(h c).1]
  refine (shapeCast_apply _ _ _ (ix3 i (0 : Fin 1) N) ?_).trans ?_
  · refine (Shape.rowMajor_val_three (d := ![3072, 1, 11008]) (ix3 i (0 : Fin 1) N)).trans (Eq.trans ?_ (Shape.rowMajor_val_two (d := ![3072, 11008]) (ix2 i N)).symm)
    show (i.val * 1 + 0) * 11008 + N.val = i.val * 11008 + N.val
    omega
  refine (congrArg₂ (fun g u : EReal => g * Ideal.div (Ideal.ofBits .f32 0x3F800000#32) (Ideal.ofBits .f32 0x3F800000#32 + Ideal.exp (-g)) * u)
    (gate_apply m c i N) (up_apply m c i N)).trans ?_
  show _ * Ideal.div _ _ * _ = _
  rw [one_eq, sigmoid_eq]
  rfl

end Cert.ReferenceIdeal.Parts

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.KernelValue
public import proofs.«01_k».proof.Proof.RefValue

@[expose] public section

noncomputable section

namespace Cert.Proof

open Idealize.ShloMosaic Idealize.SL.Sem

/-- From equal arguments, the reference's function of them at each token and column is the kernel's. -/
theorem algebraic : Cert.algebraic_KernelIdeal_ReferenceIdeal := fun m g m' g' _ hm => by
  refine ⟨fun c => Cert.KernelIdeal.Rolled.result (F := Ideal) m c,
    (θ_run _ _ _).mono (fun _ h => h.1) (Cert.KernelIdeal.Rolled.run_full (F := Ideal) m g),
    (θ_run _ _ _).mono (fun _ h c => ⟨funext fun y => ?_, (h c).2⟩) (Cert.ReferenceIdeal.Parts.run_value m' g')⟩
  obtain ⟨i, N, rfl⟩ : ∃ (i : Fin 3072) (N : Fin 11008), y = ix2 i N := ⟨y 0, y 1, (ix2_eta (n0 := 3072) (n1 := 11008) y).symm⟩
  refine ((h c).1 i N).trans (Eq.trans ?_ (Cert.KernelIdeal.Rolled.result_apply m c i N).symm)
  obtain ⟨h0, h1, h2, h3⟩ := hm c
  have e0 : Cert.ReferenceIdeal.Parts.argX m' c = Cert.KernelIdeal.Rolled.argX m c := h0
  have e1 : Cert.ReferenceIdeal.Parts.argQ m' c = Cert.KernelIdeal.Rolled.argQ m c := h1
  have e2 : Cert.ReferenceIdeal.Parts.argS m' c = Cert.KernelIdeal.Rolled.argS m c := h2
  have e3 : Cert.ReferenceIdeal.Parts.argZ m' c = Cert.KernelIdeal.Rolled.argZ m c := h3
  rw [e0, e1, e2, e3]

theorem claim : Cert.Claim := ⟨Cert.Kernel.Gen.facts, Cert.KernelIdeal.Gen.facts, Cert.ReferenceIdeal.Gen.facts,
  frame_kernel, frame_ideal, frame_reference, trivial, algebraic⟩

end Cert.Proof

end
